-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4x64x64x64 : Shape := ⟨5, ![1, 4, 64, 64, 64]⟩
abbrev S8x4x3x3x3 : Shape := ⟨5, ![8, 4, 3, 3, 3]⟩
abbrev S_ : Shape := ⟨0, ![]⟩

class Facts : Prop where
  bcast_S_S1x4x64x64x64 : S_.BroadcastsInDim S1x4x64x64x64 (![] : Fin 0 → Fin S1x4x64x64x64.rank)
  reducesTo_S1x4x64x64x64_S_d0_1_2_3_4 : S1x4x64x64x64.ReducesTo [0, 1, 2, 3, 4] S_
  h_S_ : 0 < S_.numel
  bcast_S_S8x4x3x3x3 : S_.BroadcastsInDim S8x4x3x3x3 (![] : Fin 0 → Fin S8x4x3x3x3.rank)
  reducesTo_S8x4x3x3x3_S_d0_1_2_3_4 : S8x4x3x3x3.ReducesTo [0, 1, 2, 3, 4] S_

variable [Facts]

def fn {F : FTy → Type} [FloatOps F] (main_arg0 : FVec F S1x4x64x64x64 .f32) (main_arg1 : FVec F S8x4x3x3x3 .f32) : IVec S_ 1 :=
  let main_v0 : FVec F S1x4x64x64x64 .f32 := Host.absf main_arg0
  let main_cst : FVec F S_ .f32 := constant S_ .f32 0x7F800000#32
  let main_v1 : FVec F S1x4x64x64x64 .f32 := broadcastInDim S1x4x64x64x64 ![] bcast_S_S1x4x64x64x64 main_cst
  let main_v2 : IVec S1x4x64x64x64 1 := cmpf .olt main_v0 main_v1
  let main_c : IVec S_ 1 := constantI S_ 1 1#1
  let main_v3 : IVec S_ 1 := (fun x v => Host.reduce IntOp.andi x v reducesTo_S1x4x64x64x64_S_d0_1_2_3_4 h_S_) main_v2 main_c
  let main_v4 : FVec F S8x4x3x3x3 .f32 := Host.absf main_arg1
  let main_cst_0 : FVec F S_ .f32 := constant S_ .f32 0x7F800000#32
  let main_v5 : FVec F S8x4x3x3x3 .f32 := broadcastInDim S8x4x3x3x3 ![] bcast_S_S8x4x3x3x3 main_cst_0
  let main_v6 : IVec S8x4x3x3x3 1 := cmpf .olt main_v4 main_v5
  let main_c_1 : IVec S_ 1 := constantI S_ 1 1#1
  let main_v7 : IVec S_ 1 := (fun x v => Host.reduce IntOp.andi x v reducesTo_S8x4x3x3x3_S_d0_1_2_3_4 h_S_) main_v6 main_c_1
  let main_v8 : IVec S_ 1 := andi main_v3 main_v7
  main_v8
-- ==== Kernel.lean ====
abbrev S1x4x64x64x64 : Shape := ⟨5, ![1, 4, 64, 64, 64]⟩
abbrev S8x4x3x3x3 : Shape := ⟨5, ![8, 4, 3, 3, 3]⟩
abbrev S4x64x64x64 : Shape := ⟨4, ![4, 64, 64, 64]⟩
abbrev S8x108 : Shape := ⟨2, ![8, 108]⟩
abbrev S8x4x64x1024 : Shape := ⟨4, ![8, 4, 64, 1024]⟩
abbrev S1x64x64x64 : Shape := ⟨4, ![1, 64, 64, 64]⟩
abbrev S8x1x64x1024 : Shape := ⟨4, ![8, 1, 64, 1024]⟩
abbrev S64x64x64 : Shape := ⟨3, ![64, 64, 64]⟩
abbrev S1x64x64 : Shape := ⟨3, ![1, 64, 64]⟩
abbrev S65x64x64 : Shape := ⟨3, ![65, 64, 64]⟩
abbrev S66x64x64 : Shape := ⟨3, ![66, 64, 64]⟩
abbrev S66x1x64 : Shape := ⟨3, ![66, 1, 64]⟩
abbrev S66x65x64 : Shape := ⟨3, ![66, 65, 64]⟩
abbrev S66x66x64 : Shape := ⟨3, ![66, 66, 64]⟩
abbrev S66x66x1 : Shape := ⟨3, ![66, 66, 1]⟩
abbrev S66x66x65 : Shape := ⟨3, ![66, 66, 65]⟩
abbrev S66x66x3 : Shape := ⟨3, ![66, 66, 3]⟩
abbrev S66x66x68 : Shape := ⟨3, ![66, 66, 68]⟩
abbrev S4356x68 : Shape := ⟨2, ![4356, 68]⟩
abbrev S68x96 : Shape := ⟨2, ![68, 96]⟩
abbrev S4356x96 : Shape := ⟨2, ![4356, 96]⟩
abbrev S66x66x96 : Shape := ⟨3, ![66, 66, 96]⟩
abbrev S66x66x16 : Shape := ⟨3, ![66, 66, 16]⟩
abbrev S66x1056 : Shape := ⟨2, ![66, 1056]⟩
abbrev S64x1024 : Shape := ⟨2, ![64, 1024]⟩
abbrev S1x1 : Shape := ⟨2, ![1, 1]⟩
abbrev S1x1x64x1024 : Shape := ⟨4, ![1, 1, 64, 1024]⟩
abbrev S8x64x64x64 : Shape := ⟨4, ![8, 64, 64, 64]⟩
abbrev S1x8x64x64x64 : Shape := ⟨5, ![1, 8, 64, 64, 64]⟩

abbrev nBuf : Space → Nat
  | .hbm => 7
  | .vmem => 4
  | .smem => 1
  | _ => 0

abbrev bufTy : (tb : Table) → Fin (tcTables nBuf tb) → BufTy
  | .hbm, ⟨0, _⟩ => ⟨S1x4x64x64x64, .f32⟩
  | .hbm, ⟨1, _⟩ => ⟨S8x4x3x3x3, .f32⟩
  | .hbm, ⟨2, _⟩ => ⟨S4x64x64x64, .f32⟩
  | .hbm, ⟨3, _⟩ => ⟨S8x108, .f32⟩
  | .hbm, ⟨4, _⟩ => ⟨S8x4x64x1024, .f32⟩
  | .hbm, ⟨5, _⟩ => ⟨S8x64x64x64, .f32⟩
  | .hbm, ⟨6, _⟩ => ⟨S1x8x64x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S8x1x64x1024, .f32⟩
  | .local _ .vmem, ⟨3, _⟩ => ⟨S8x1x64x1024, .f32⟩
  | .local _ .smem, ⟨0, _⟩ => ⟨S8x108, .f32⟩
  | _, _ => ⟨S1x4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S8x108 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x4x64x64x64 : Shape := ⟨5, ![1, 4, 64, 64, 64]⟩
abbrev S8x4x3x3x3 : Shape := ⟨5, ![8, 4, 3, 3, 3]⟩
abbrev S_ : Shape := ⟨0, ![]⟩
abbrev S1x4x66x66x66 : Shape := ⟨5, ![1, 4, 66, 66, 66]⟩
abbrev S64 : Shape := ⟨1, ![64]⟩
abbrev S64x64x64 : Shape := ⟨3, ![64, 64, 64]⟩
abbrev S262144 : Shape := ⟨1, ![262144]⟩
abbrev S262144x1 : Shape := ⟨2, ![262144, 1]⟩
abbrev S262144x3 : Shape := ⟨2, ![262144, 3]⟩
abbrev S3 : Shape := ⟨1, ![3]⟩
abbrev S3x3x3 : Shape := ⟨3, ![3, 3, 3]⟩
abbrev S27 : Shape := ⟨1, ![27]⟩
abbrev S27x1 : Shape := ⟨2, ![27, 1]⟩
abbrev S27x3 : Shape := ⟨2, ![27, 3]⟩
abbrev S262144x1x3 : Shape := ⟨3, ![262144, 1, 3]⟩
abbrev S1x27x3 : Shape := ⟨3, ![1, 27, 3]⟩
abbrev S262144x27x3 : Shape := ⟨3, ![262144, 27, 3]⟩
abbrev S262144x27x1 : Shape := ⟨3, ![262144, 27, 1]⟩
abbrev S262144x27 : Shape := ⟨2, ![262144, 27]⟩
abbrev S7077888 : Shape := ⟨1, ![7077888]⟩
abbrev S8x4x27 : Shape := ⟨3, ![8, 4, 27]⟩
abbrev S7077888x1 : Shape := ⟨2, ![7077888, 1]⟩
abbrev S7077888x3 : Shape := ⟨2, ![7077888, 3]⟩
abbrev S1x4x7077888 : Shape := ⟨3, ![1, 4, 7077888]⟩
abbrev S1x262144x4x27 : Shape := ⟨4, ![1, 262144, 4, 27]⟩
abbrev S8x1x262144 : Shape := ⟨3, ![8, 1, 262144]⟩
abbrev S1x8x262144 : Shape := ⟨3, ![1, 8, 262144]⟩
abbrev S1x8x64x64x64 : Shape := ⟨5, ![1, 8, 64, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S1x4x64x64x64, .f32⟩
  | .hbm, ⟨1, _⟩ => ⟨S8x4x3x3x3, .f32⟩
  | .hbm, ⟨2, _⟩ => ⟨S_, .i32⟩
  | .hbm, ⟨3, _⟩ => ⟨S_, .f32⟩
  | .hbm, ⟨4, _⟩ => ⟨S1x4x66x66x66, .f32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S64x64x64, .i32⟩
  | .hbm, ⟨9, _⟩ => ⟨S64x64x64, .i32⟩
  | .hbm, ⟨10, _⟩ => ⟨S64x64x64, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S262144x1, .i32⟩
  | .hbm, ⟨16, _⟩ => ⟨S262144x1, .i32⟩
  | .hbm, ⟨17, _⟩ => ⟨S262144x3, .i32⟩
  | .hbm, ⟨18, _⟩ => ⟨S_, .i32⟩
  | .hbm, ⟨19, _⟩ => ⟨S262144x3, .i32⟩
  | .hbm, ⟨20, _⟩ => ⟨S262144x3, .i32⟩
  | .hbm, ⟨21, _⟩ => ⟨S3, .i32⟩
  | .hbm, ⟨22, _⟩ => ⟨S_, .i32⟩
  | .hbm, ⟨23, _⟩ => ⟨S3, .i32⟩
  | .hbm, ⟨24, _⟩ => ⟨S3, .i32⟩
  | .hbm, ⟨25, _⟩ => ⟨S3x3x3, .i32⟩
  | .hbm, ⟨26, _⟩ => ⟨S3x3x3, .i32⟩
  | .hbm, ⟨27, _⟩ => ⟨S3x3x3, .i32⟩
  | .hbm, ⟨28, _⟩ => ⟨S27, .i32⟩
  | .hbm, ⟨29, _⟩ => ⟨S27, .i32⟩
  | .hbm, ⟨30, _⟩ => ⟨S27, .i32⟩
  | .hbm, ⟨31, _⟩ => ⟨S27x1, .i32⟩
  | .hbm, ⟨32, _⟩ => ⟨S27x1, .i32⟩
  | .hbm, ⟨33, _⟩ => ⟨S27x1, .i32⟩
  | .hbm, ⟨34, _⟩ => ⟨S27x3, .i32⟩
  | .hbm, ⟨35, _⟩ => ⟨S262144x1x3, .i32⟩
  | .hbm, ⟨36, _⟩ => ⟨S1x27x3, .i32⟩
  | .hbm, ⟨37, _⟩ => ⟨S262144x27x3, .i32⟩
  | .hbm, ⟨38, _⟩ => ⟨S262144x27x3, .i32⟩
  | .hbm, ⟨39, _⟩ => ⟨S262144x27x3, .i32⟩
  | .hbm, ⟨40, _⟩ => ⟨S262144x27x1, .i32⟩
  | .hbm, ⟨41, _⟩ => ⟨S262144x27, .i32⟩
  | .hbm, ⟨42, _⟩ => ⟨S7077888, .i32⟩
  | .hbm, ⟨43, _⟩ => ⟨S262144x27x1, .i32⟩
  | .hbm, ⟨44, _⟩ => ⟨S262144x27, .i32⟩
  | .hbm, ⟨45, _⟩ => ⟨S7077888, .i32⟩
  | .hbm, ⟨46, _⟩ => ⟨S262144x27x1, .i32⟩
  | .hbm, ⟨47, _⟩ => ⟨S262144x27, .i32⟩
  | .hbm, ⟨48, _⟩ => ⟨S7077888, .i32⟩
  | .hbm, ⟨49, _⟩ => ⟨S8x4x27, .f32⟩
  | .hbm, ⟨50, _⟩ => ⟨S_, .i32⟩
  | .hbm, ⟨51, _⟩ => ⟨S7077888, .i32⟩
  | .hbm, ⟨52, _⟩ => ⟨S7077888, .i1⟩
  | .hbm, ⟨53, _⟩ => ⟨S_, .i32⟩
  | .hbm, ⟨54, _⟩ => ⟨S7077888, .i32⟩
  | .hbm, ⟨55, _⟩ => ⟨S7077888, .i32⟩
  | .hbm, ⟨56, _⟩ => ⟨S7077888, .i32⟩
  | .hbm, ⟨57, _⟩ => ⟨S_, .i32⟩
  | .hbm, ⟨58, _⟩ => ⟨S7077888, .i32⟩
  | .hbm, ⟨59, _⟩ => ⟨S7077888, .i1⟩
  | .hbm, ⟨60, _⟩ => ⟨S_, .i32⟩
  | .hbm, ⟨61, _⟩ => ⟨S7077888, .i32⟩
  | .hbm, ⟨62, _⟩ => ⟨S7077888, .i32⟩
  | .hbm, ⟨63, _⟩ => ⟨S7077888, .i32⟩
  | .hbm, ⟨64, _⟩ => ⟨S_, .i32⟩
  | .hbm, ⟨65, _⟩ => ⟨S7077888, .i32⟩
  | .hbm, ⟨66, _⟩ => ⟨S7077888, .i1⟩
  | .hbm, ⟨67, _⟩ => ⟨S_, .i32⟩
  | .hbm, ⟨68, _⟩ => ⟨S7077888, .i32⟩
  | .hbm, ⟨69, _⟩ => ⟨S7077888, .i32⟩
  | .hbm, ⟨70, _⟩ => ⟨S7077888, .i32⟩
  | .hbm, ⟨71, _⟩ => ⟨S7077888x1, .i32⟩
  | .hbm, ⟨72, _⟩ => ⟨S7077888x1, .i32⟩
  | .hbm, ⟨73, _⟩ => ⟨S7077888x1, .i32⟩
  | .hbm, ⟨74, _⟩ => ⟨S7077888x3, .i32⟩
  | .hbm, ⟨75, _⟩ => ⟨S1x4x7077888, .f32⟩
  | .hbm, ⟨76, _⟩ => ⟨S1x262144x4x27, .f32⟩
  | .hbm, ⟨77, _⟩ => ⟨S8x1x262144, .f32⟩
  | .hbm, ⟨78, _⟩ => ⟨S1x8x262144, .f32⟩
  | .hbm, ⟨79, _⟩ => ⟨S1x8x64x64x64, .f32⟩
  | _, _ => ⟨S1x4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c_2 : Ref sig .tc := ⟨.hbm, 50, rfl⟩
abbrev main_v44 : Ref sig .tc := ⟨.hbm, 51, rfl⟩
abbrev main_v45 : Ref sig .tc := ⟨.hbm, 52, rfl⟩
abbrev main_c_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_4 : Ref sig .tc := ⟨.hbm, 57, rfl⟩
abbrev main_v49 : Ref sig .tc := ⟨.hbm, 58, rfl⟩
abbrev main_v50 : Ref sig .tc := ⟨.hbm, 59, rfl⟩
abbrev main_c_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_6 : Ref sig .tc := ⟨.hbm, 64, rfl⟩
abbrev main_v54 : Ref sig .tc := ⟨.hbm, 65, rfl⟩
abbrev main_v55 : Ref sig .tc := ⟨.hbm, 66, rfl⟩
abbrev main_c_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Proof.Finite.lean ====
/- What the precondition says over the extended reals: every entry of both arguments is a real number. -/
module

public import proofs.«01_k».proof.Pre_finite
public import Idealize.ShloMosaic.Lib.ReduceAll
public import Idealize.ShloMosaic.PureOps.Ideal

@[expose] public section

noncomputable section

namespace Cert.Finite

open Idealize.ShloMosaic Cert.Pre_finite

/-- An extended real whose magnitude lies below some bound is a real number. -/
theorem real_of_lt (e b : EReal) (h : Ideal.cmp .olt (max e (-e)) b = 1#1) : ∃ q : ℝ, e = q := by
  have hlt : max e (-e) < b := by
    by_contra hn
    have h' : BitVec.ofBool (decide (max e (-e) < b)) = 1#1 := h
    rw [decide_eq_false hn] at h'
    exact absurd h' (by decide)
  have htop : max e (-e) < ⊤ := lt_of_lt_of_le hlt le_top
  have h1 : e ≠ ⊤ := by rintro rfl; simp at htop
  have h2 : e ≠ ⊥ := by rintro rfl; simp at htop
  exact ⟨e.toReal, (EReal.coe_toReal h1 h2).symm⟩

/-- Two bits whose conjunction is one are both one. -/
theorem both_one : ∀ a b : BitVec 1, IntOp.andi a b = 1#1 → a = 1#1 ∧ b = 1#1 := by decide

/-- Under the precondition every entry of the input and of the weights is a real number. -/
theorem of_pre [Cert.Pre_finite.Facts] (x : FVec Ideal S1x4x64x64x64 .f32) (w : FVec Ideal S8x4x3x3x3 .f32)
    (h : Cert.Pre_finite.fn (F := Ideal) x w = fun _ => 1#1) :
    (∀ i, ∃ q : ℝ, x i = (q : EReal)) ∧ ∀ i, ∃ q : ℝ, w i = (q : EReal) := by
  haveI : Subsingleton S_.Idx := ⟨fun a b => funext fun k => k.elim0⟩
  have h0 := congrFun h (fun k : Fin 0 => k.elim0)
  unfold Cert.Pre_finite.fn at h0
  dsimp only at h0
  obtain ⟨hx, hw⟩ := both_one _ _ h0
  exact ⟨fun i => real_of_lt (x i) _ (Host.reduce_andi_all _ _ _ _ _ hx i),
    fun i => real_of_lt (w i) _ (Host.reduce_andi_all _ _ _ _ _ hw i)⟩

end Cert.Finite

end
-- ==== Proof.Joins.lean ====
/- Arrays glued along an axis, read at an index. -/
module

public import Idealize.ShloMosaic.Lib.Pipeline.Value
public import Idealize.ShloMosaic.Lib.ValueIdx

@[expose] public section

noncomputable section

namespace Cert.Joins

open Idealize.ShloMosaic Idealize.ShloMosaic.ValueIdx

variable {α : Type}

/-- Two rank-3 arrays glued along the first axis: below the first one's extent the first is read, above it the
    second. -/
theorem glue0 {a b n m k : ℕ} (x : (⟨3, ![a, m, k]⟩ : Shape).Idx → α) (y : (⟨3, ![b, m, k]⟩ : Shape).Idx → α)
    (h : Shape.Concatenates [⟨3, ![a, m, k]⟩, ⟨3, ![b, m, k]⟩] (⟨3, ![n, m, k]⟩ : Shape) 0) (hn : n = a + b)
    (i : Fin n) (j : Fin m) (l : Fin k) :
    concatenate (⟨3, ![n, m, k]⟩ : Shape) 0 [⟨⟨3, ![a, m, k]⟩, x⟩, ⟨⟨3, ![b, m, k]⟩, y⟩] h (ix3 i j l)
      = if hi : i.val < a then x (ix3 ⟨i.val, hi⟩ j l) else y (ix3 ⟨i.val - a, by omega⟩ j l) := by
  split
  · rename_i hi
    exact concatenate_pair_apply_left 0 x y h _ rfl (ix3 ⟨i.val, hi⟩ j l)
      (fun c => match c with | ⟨0, _⟩ => rfl | ⟨1, _⟩ => rfl | ⟨2, _⟩ => rfl)
  · rename_i hi
    exact concatenate_pair_apply_right 0 x y h _ rfl rfl (ix3 ⟨i.val - a, by omega⟩ j l)
      (fun c hc => match c, hc with | ⟨0, _⟩, hc => absurd rfl hc | ⟨1, _⟩, _ => rfl | ⟨2, _⟩, _ => rfl)
      (by show i.val - a + a = i.val; omega)

/-- Two rank-3 arrays glued along the middle axis. -/
theorem glue1 {a b n m k : ℕ} (x : (⟨3, ![m, a, k]⟩ : Shape).Idx → α) (y : (⟨3, ![m, b, k]⟩ : Shape).Idx → α)
    (h : Shape.Concatenates [⟨3, ![m, a, k]⟩, ⟨3, ![m, b, k]⟩] (⟨3, ![m, n, k]⟩ : Shape) 1) (hn : n = a + b)
    (j : Fin m) (i : Fin n) (l : Fin k) :
    concatenate (⟨3, ![m, n, k]⟩ : Shape) 1 [⟨⟨3, ![m, a, k]⟩, x⟩, ⟨⟨3, ![m, b, k]⟩, y⟩] h (ix3 j i l)
      = if hi : i.val < a then x (ix3 j ⟨i.val, hi⟩ l) else y (ix3 j ⟨i.val - a, by omega⟩ l) := by
  split
  · rename_i hi
    exact concatenate_pair_apply_left 1 x y h _ rfl (ix3 j ⟨i.val, hi⟩ l)
      (fun c => match c with | ⟨0, _⟩ => rfl | ⟨1, _⟩ => rfl | ⟨2, _⟩ => rfl)
  · rename_i hi
    exact concatenate_pair_apply_right 1 x y h _ rfl rfl (ix3 j ⟨i.val - a, by omega⟩ l)
      (fun c hc => match c, hc with | ⟨0, _⟩, _ => rfl | ⟨1, _⟩, hc => absurd rfl hc | ⟨2, _⟩, _ => rfl)
      (by show i.val - a + a = i.val; omega)

/-- Two rank-3 arrays glued along the last axis. -/
theorem glue2 {a b n m k : ℕ} (x : (⟨3, ![m, k, a]⟩ : Shape).Idx → α) (y : (⟨3, ![m, k, b]⟩ : Shape).Idx → α)
    (h : Shape.Concatenates [⟨3, ![m, k, a]⟩, ⟨3, ![m, k, b]⟩] (⟨3, ![m, k, n]⟩ : Shape) 2) (hn : n = a + b)
    (j : Fin m) (l : Fin k) (i : Fin n) :
    concatenate (⟨3, ![m, k, n]⟩ : Shape) 2 [⟨⟨3, ![m, k, a]⟩, x⟩, ⟨⟨3, ![m, k, b]⟩, y⟩] h (ix3 j l i)
      = if hi : i.val < a then x (ix3 j l ⟨i.val, hi⟩) else y (ix3 j l ⟨i.val - a, by omega⟩) := by
  split
  · rename_i hi
    exact concatenate_pair_apply_left 2 x y h _ rfl (ix3 j l ⟨i.val, hi⟩)
      (fun c => match c with | ⟨0, _⟩ => rfl | ⟨1, _⟩ => rfl | ⟨2, _⟩ => rfl)
  · rename_i hi
    exact concatenate_pair_apply_right 2 x y h _ rfl rfl (ix3 j l ⟨i.val - a, by omega⟩)
      (fun c hc => match c, hc with | ⟨0, _⟩, _ => rfl | ⟨1, _⟩, _ => rfl | ⟨2, _⟩, hc => absurd rfl hc)
      (by show i.val - a + a = i.val; omega)

/-- Three columns put side by side, read in the first, the second and the third column. -/
theorem columns {N : ℕ} (x y z : (⟨2, ![N, 1]⟩ : Shape).Idx → α)
    (h : Shape.Concatenates [⟨2, ![N, 1]⟩, ⟨2, ![N, 1]⟩, ⟨2, ![N, 1]⟩] (⟨2, ![N, 3]⟩ : Shape) 1) (n : Fin N) :
    concatenate (⟨2, ![N, 3]⟩ : Shape) 1 [⟨⟨2, ![N, 1]⟩, x⟩, ⟨⟨2, ![N, 1]⟩, y⟩, ⟨⟨2, ![N, 1]⟩, z⟩] h (ix2 n 0) = x (ix2 n 0)
    ∧ concatenate (⟨2, ![N, 3]⟩ : Shape) 1 [⟨⟨2, ![N, 1]⟩, x⟩, ⟨⟨2, ![N, 1]⟩, y⟩, ⟨⟨2, ![N, 1]⟩, z⟩] h (ix2 n 1) = y (ix2 n 0)
    ∧ concatenate (⟨2, ![N, 3]⟩ : Shape) 1 [⟨⟨2, ![N, 1]⟩, x⟩, ⟨⟨2, ![N, 1]⟩, y⟩, ⟨⟨2, ![N, 1]⟩, z⟩] h (ix2 n 2) = z (ix2 n 0) := by
  refine ⟨?_, ?_, ?_⟩
  · exact concatenate_apply_piece 1 [⟨⟨2, ![N, 1]⟩, x⟩, ⟨⟨2, ![N, 1]⟩, y⟩, ⟨⟨2, ![N, 1]⟩, z⟩] h _ 0 (by simp) _ x rfl rfl 0 rfl (ix2 n 0)
      (fun c hc => match c, hc with | ⟨0, _⟩, _ => rfl | ⟨1, _⟩, hc => absurd rfl hc) rfl
  · exact concatenate_apply_piece 1 [⟨⟨2, ![N, 1]⟩, x⟩, ⟨⟨2, ![N, 1]⟩, y⟩, ⟨⟨2, ![N, 1]⟩, z⟩] h _ 1 (by simp) _ y rfl rfl 1 rfl (ix2 n 0)
      (fun c hc => match c, hc with | ⟨0, _⟩, _ => rfl | ⟨1, _⟩, hc => absurd rfl hc) rfl
  · exact concatenate_apply_piece 1 [⟨⟨2, ![N, 1]⟩, x⟩, ⟨⟨2, ![N, 1]⟩, y⟩, ⟨⟨2, ![N, 1]⟩, z⟩] h _ 2 (by simp) _ z rfl rfl 2 rfl (ix2 n 0)
      (fun c hc => match c, hc with | ⟨0, _⟩, _ => rfl | ⟨1, _⟩, hc => absurd rfl hc) rfl

end Cert.Joins

end
-- ==== Proof.Words.lean ====
/- The integer words by which the reference names the positions its patches read. -/
module

public import proofs.«01_k».proof.Proof.Gen.ReferenceIdeal.Read
public import proofs.«01_k».proof.Proof.Joins

@[expose] public section

set_option maxRecDepth 16384

noncomputable section

namespace Cert.Words

open Idealize.ShloMosaic Idealize.ShloMosaic.TcCoe
open Cert.ReferenceIdeal Cert.ReferenceIdeal.Gen Cert.ReferenceIdeal.Read Cert.Joins

/-- A coordinate moved one up and back by one minus the tap is the coordinate plus the tap. -/
theorem word_add (a b : ℕ) (ha : a < 64) (hb : b < 3) :
    IntOp.addi (IntOp.addi (BitVec.ofNat 32 a) 1#32) (IntOp.addi 4294967295#32 (BitVec.ofNat 32 b)) = BitVec.ofNat 32 (a + b) := by
  show BitVec.ofNat 32 a + 1#32 + (4294967295#32 + BitVec.ofNat 32 b) = BitVec.ofNat 32 (a + b)
  apply BitVec.eq_of_toNat_eq
  simp only [BitVec.toNat_add, BitVec.toNat_ofNat]
  omega

/-- A coordinate that is not negative is not wrapped around. -/
theorem word_wrap (v : ℕ) (hv : v < 66) :
    Scalar.select (IntOp.cmpi .slt (BitVec.ofNat 32 v) 0#32) (IntOp.addi (BitVec.ofNat 32 v) 66#32) (BitVec.ofNat 32 v)
      = BitVec.ofNat 32 v := by
  have h : ∀ v : Fin 66, Scalar.select (IntOp.cmpi .slt (BitVec.ofNat 32 v.val) 0#32)
      (IntOp.addi (BitVec.ofNat 32 v.val) 66#32) (BitVec.ofNat 32 v.val) = BitVec.ofNat 32 v.val := by decide +kernel
  exact h ⟨v, hv⟩

/-- A coordinate within the padded axis is not clamped. -/
theorem word_clamp (v : ℕ) (hv : v < 66) : min (BitVec.ofNat 32 v).toInt.toNat 65 = v := by
  have h : ∀ v : Fin 66, min (BitVec.ofNat 32 v.val).toInt.toNat 65 = v.val := by decide +kernel
  exact h ⟨v, hv⟩

/-- The unpadded coordinates of position `n` in row-major order, one up: the first axis, -/
theorem pos0 (n : Fin 262144) : val_main_v13 (F := Ideal) (ValueIdx.ix2 n 0) = BitVec.ofNat 32 (n.val / 4096) := by
  unfold val_main_v13
  rw [(columns _ _ _ _ n).1, val_main_v10_apply, val_main_v7_apply, val_main_v4_apply, val_main_v1_apply]
/-- the second axis, -/
theorem pos1 (n : Fin 262144) : val_main_v13 (F := Ideal) (ValueIdx.ix2 n 1) = BitVec.ofNat 32 (n.val / 64 % 64) := by
  unfold val_main_v13
  rw [(columns _ _ _ _ n).2.1, val_main_v11_apply, val_main_v8_apply, val_main_v5_apply, val_main_v2_apply]
/-- the third axis. -/
theorem pos2 (n : Fin 262144) : val_main_v13 (F := Ideal) (ValueIdx.ix2 n 2) = BitVec.ofNat 32 (n.val % 64) := by
  unfold val_main_v13
  rw [(columns _ _ _ _ n).2.2, val_main_v12_apply, val_main_v9_apply, val_main_v6_apply, val_main_v3_apply]

/-- The offset of tap `k` along the first axis, -/
theorem off0 (k : Fin 27) : val_main_v28 (F := Ideal) (ValueIdx.ix2 k 0) = IntOp.addi 4294967295#32 (BitVec.ofNat 32 (k.val / 9)) := by
  unfold val_main_v28
  rw [(columns _ _ _ _ k).1, val_main_v25_apply, val_main_v22_apply, val_main_v19_apply, val_main_v18_apply,
    val_main_v17_apply, val_main_c_1_apply, val_main_v16_apply]
/-- the second axis, -/
theorem off1 (k : Fin 27) : val_main_v28 (F := Ideal) (ValueIdx.ix2 k 1) = IntOp.addi 4294967295#32 (BitVec.ofNat 32 (k.val / 3 % 3)) := by
  unfold val_main_v28
  rw [(columns _ _ _ _ k).2.1, val_main_v26_apply, val_main_v23_apply, val_main_v20_apply, val_main_v18_apply,
    val_main_v17_apply, val_main_c_1_apply, val_main_v16_apply]
/-- the third axis. -/
theorem off2 (k : Fin 27) : val_main_v28 (F := Ideal) (ValueIdx.ix2 k 2) = IntOp.addi 4294967295#32 (BitVec.ofNat 32 (k.val % 3)) := by
  unfold val_main_v28
  rw [(columns _ _ _ _ k).2.2, val_main_v27_apply, val_main_v24_apply, val_main_v21_apply, val_main_v18_apply,
    val_main_v17_apply, val_main_c_1_apply, val_main_v16_apply]

/-- A position's and a tap's words added. -/
theorem both (n : Fin 262144) (k : Fin 27) (a : Fin 3) :
    val_main_v33 (F := Ideal) (ValueIdx.ix3 n k a)
      = IntOp.addi (IntOp.addi (val_main_v13 (F := Ideal) (ValueIdx.ix2 n a)) 1#32) (val_main_v28 (F := Ideal) (ValueIdx.ix2 k a)) := by
  have e1 : idx_main_v29 (idx_main_v31 (ValueIdx.ix3 n k a)) = ValueIdx.ix2 n a :=
    funext fun b => match b with | ⟨0, _⟩ => rfl | ⟨1, _⟩ => rfl
  have e2 : idx_main_v30 (idx_main_v32 (ValueIdx.ix3 n k a)) = ValueIdx.ix2 k a :=
    funext fun b => match b with | ⟨0, _⟩ => rfl | ⟨1, _⟩ => rfl
  rw [val_main_v33_apply, val_main_v31_apply, val_main_v29_apply, e1, val_main_v32_apply, val_main_v30_apply, e2,
    val_main_v15_apply, val_main_v14_apply, val_main_c_0_apply]

/-- The row of 27-tap patches that entry `p` of the flat list belongs to, and its tap. -/
abbrev rowOf (p : Fin 7077888) : Fin 262144 := ⟨p.val / 27, by omega⟩
abbrev tapOf (p : Fin 7077888) : Fin 27 := ⟨p.val % 27, by omega⟩

/-- The first coordinate entry `p` of the flat list reads, -/
theorem coord0 (p : Fin 7077888) :
    val_main_v62 (F := Ideal) (ValueIdx.ix2 p 0) = BitVec.ofNat 32 (p.val / 27 / 4096 + p.val % 27 / 9) := by
  have e : idx_main_v34 (idx_main_v35 (idx_main_v36 (idx_main_v59 (ValueIdx.ix2 p 0)))) = ValueIdx.ix3 (rowOf p) (tapOf p) 0 :=
    funext fun b => match b with
    | ⟨0, _⟩ => Fin.ext (by show (p.val / 27 * 27 + p.val % 27) / 27 = p.val / 27; omega)
    | ⟨1, _⟩ => Fin.ext (by show (p.val / 27 * 27 + p.val % 27) / 1 % 27 = p.val % 27; omega)
    | ⟨2, _⟩ => rfl
  have w : val_main_v36 (F := Ideal) (idx_main_v59 (ValueIdx.ix2 p 0)) = BitVec.ofNat 32 (p.val / 27 / 4096 + p.val % 27 / 9) := by
    rw [val_main_v36_apply, val_main_v35_apply, val_main_v34_apply, e, both, pos0, off0, word_add _ _ (by show p.val / 27 / 4096 < 64; omega) (by show p.val % 27 / 9 < 3; omega)]
  unfold val_main_v62
  rw [(columns _ _ _ _ p).1, val_main_v59_apply, val_main_v48_apply, val_main_v45_apply, val_main_v47_apply,
    val_main_v44_apply, val_main_v46_apply, val_main_c_2_apply, val_main_c_3_apply, w, word_wrap _ (by omega)]
/-- the second, -/
theorem coord1 (p : Fin 7077888) :
    val_main_v62 (F := Ideal) (ValueIdx.ix2 p 1) = BitVec.ofNat 32 (p.val / 27 / 64 % 64 + p.val % 27 / 3 % 3) := by
  have e : idx_main_v37 (idx_main_v38 (idx_main_v39 (idx_main_v60 (ValueIdx.ix2 p 0)))) = ValueIdx.ix3 (rowOf p) (tapOf p) 1 :=
    funext fun b => match b with
    | ⟨0, _⟩ => Fin.ext (by show (p.val / 27 * 27 + p.val % 27) / 27 = p.val / 27; omega)
    | ⟨1, _⟩ => Fin.ext (by show (p.val / 27 * 27 + p.val % 27) / 1 % 27 = p.val % 27; omega)
    | ⟨2, _⟩ => rfl
  have w : val_main_v39 (F := Ideal) (idx_main_v60 (ValueIdx.ix2 p 0)) = BitVec.ofNat 32 (p.val / 27 / 64 % 64 + p.val % 27 / 3 % 3) := by
    rw [val_main_v39_apply, val_main_v38_apply, val_main_v37_apply, e, both, pos1, off1, word_add _ _ (by show p.val / 27 / 64 % 64 < 64; omega) (by show p.val % 27 / 3 % 3 < 3; omega)]
  unfold val_main_v62
  rw [(columns _ _ _ _ p).2.1, val_main_v60_apply, val_main_v53_apply, val_main_v50_apply, val_main_v52_apply,
    val_main_v49_apply, val_main_v51_apply, val_main_c_4_apply, val_main_c_5_apply, w, word_wrap _ (by omega)]
/-- the third. -/
theorem coord2 (p : Fin 7077888) :
    val_main_v62 (F := Ideal) (ValueIdx.ix2 p 2) = BitVec.ofNat 32 (p.val / 27 % 64 + p.val % 27 % 3) := by
  have e : idx_main_v40 (idx_main_v41 (idx_main_v42 (idx_main_v61 (ValueIdx.ix2 p 0)))) = ValueIdx.ix3 (rowOf p) (tapOf p) 2 :=
    funext fun b => match b with
    | ⟨0, _⟩ => Fin.ext (by show (p.val / 27 * 27 + p.val % 27) / 27 = p.val / 27; omega)
    | ⟨1, _⟩ => Fin.ext (by show (p.val / 27 * 27 + p.val % 27) / 1 % 27 = p.val % 27; omega)
    | ⟨2, _⟩ => rfl
  have w : val_main_v42 (F := Ideal) (idx_main_v61 (ValueIdx.ix2 p 0)) = BitVec.ofNat 32 (p.val / 27 % 64 + p.val % 27 % 3) := by
    rw [val_main_v42_apply, val_main_v41_apply, val_main_v40_apply, e, both, pos2, off2, word_add _ _ (by show p.val / 27 % 64 < 64; omega) (by show p.val % 27 % 3 < 3; omega)]
  unfold val_main_v62
  rw [(columns _ _ _ _ p).2.2, val_main_v61_apply, val_main_v58_apply, val_main_v55_apply, val_main_v57_apply,
    val_main_v54_apply, val_main_v56_apply, val_main_c_6_apply, val_main_c_7_apply, w, word_wrap _ (by omega)]

end Cert.Words

end
-- ==== Proof.Conv.lean ====
/- The mathematics of the claim, with no program in it: the zero-padded block, the sum over the window in
   the reference's order, and its regrouping by the offset `channel + tap` that the kernel uses. -/
module

public import Idealize.ShloMosaic.PureOps.Ideal

@[expose] public section

noncomputable section

namespace Cert.Conv

open scoped BigOperators

/-- A 64 × 64 × 64 block with a border of zeros: positions 1 to 64 on each axis are the block, every other
    position is zero. -/
def padded (x : Fin 64 → Fin 64 → Fin 64 → EReal) (r j s : ℕ) : EReal :=
  if h : ((1 ≤ r ∧ r ≤ 64) ∧ (1 ≤ j ∧ j ≤ 64)) ∧ (1 ≤ s ∧ s ≤ 64) then
    x ⟨r - 1, by omega⟩ ⟨j - 1, by omega⟩ ⟨s - 1, by omega⟩
  else 0

/-- A block of real numbers stays real when padded. -/
theorem padded_real (x : Fin 64 → Fin 64 → Fin 64 → EReal) (hx : ∀ a b c, ∃ q : ℝ, x a b c = q) (r j s : ℕ) :
    ∃ q : ℝ, padded x r j s = q := by
  unfold padded
  split
  · exact hx _ _ _
  · exact ⟨0, rfl⟩

/-- The weights that meet the input at offset `m`: the sum of `w c d` over the pairs with `c + d = m`. -/
def offsetWeight (w : Fin 4 → Fin 3 → EReal) (m : Fin 6) : EReal :=
  match m with
  | 0 => w 0 0
  | 1 => w 0 1 + w 1 0
  | 2 => w 0 2 + w 1 1 + w 2 0
  | 3 => w 1 2 + w 2 1 + w 3 0
  | 4 => w 2 2 + w 3 1
  | 5 => w 3 2

/-- Over real numbers, multiplying each input once by the sum of its weights is the same as multiplying it by each
    weight and adding. -/
theorem regroup (w : Fin 4 → Fin 3 → EReal) (y : ℕ → EReal) (hw : ∀ c d, ∃ q : ℝ, w c d = q)
    (hy : ∀ k, ∃ q : ℝ, y k = q) :
    ∑ m : Fin 6, offsetWeight w m * y m.val = ∑ c : Fin 4, ∑ d : Fin 3, w c d * y (c.val + d.val) := by
  choose w' hw' using hw
  choose y' hy' using hy
  obtain rfl : w = fun c d => (w' c d : EReal) := funext fun c => funext fun d => hw' c d
  obtain rfl : y = fun k => (y' k : EReal) := funext hy'
  simp only [Fin.sum_univ_six, Fin.sum_univ_four, Fin.sum_univ_three, offsetWeight]
  simp only [← EReal.coe_mul, ← EReal.coe_add]
  refine congrArg _ ?_
  show _ * y' 0 + _ * y' 1 + _ * y' 2 + _ * y' 3 + _ * y' 4 + _ * y' 5
    = _ * y' 0 + _ * y' 1 + _ * y' 2 + (_ * y' 1 + _ * y' 2 + _ * y' 3) + (_ * y' 2 + _ * y' 3 + _ * y' 4)
      + (_ * y' 3 + _ * y' 4 + _ * y' 5)
  ring

/-- The window sum in the reference's order: over the four channels and the 3 × 3 × 3 taps, the weight times the padded
    block, the last axis read at four times `q` plus the channel plus the tap. -/
def conv (w : Fin 4 → Fin 3 → Fin 3 → Fin 3 → EReal) (x : Fin 64 → Fin 64 → Fin 64 → EReal) (r j q : ℕ) : EReal :=
  ∑ c : Fin 4, ∑ di : Fin 3, ∑ dj : Fin 3, ∑ dk : Fin 3,
    w c di dj dk * padded x (r + di.val) (j + dj.val) (4 * q + (c.val + dk.val))

/-- The same sum in the kernel's order: over the offset and the first two taps, with the weights of one offset added
    first. Over real inputs and weights the two agree. -/
theorem conv_by_offset (w : Fin 4 → Fin 3 → Fin 3 → Fin 3 → EReal) (x : Fin 64 → Fin 64 → Fin 64 → EReal) (r j q : ℕ)
    (hw : ∀ c di dj dk, ∃ u : ℝ, w c di dj dk = u) (hx : ∀ a b c, ∃ u : ℝ, x a b c = u) :
    ∑ m : Fin 6, ∑ di : Fin 3, ∑ dj : Fin 3,
      offsetWeight (fun c dk => w c di dj dk) m * padded x (r + di.val) (j + dj.val) (4 * q + m.val)
    = conv w x r j q := by
  calc
    _ = ∑ di : Fin 3, ∑ m : Fin 6, ∑ dj : Fin 3,
          offsetWeight (fun c dk => w c di dj dk) m * padded x (r + di.val) (j + dj.val) (4 * q + m.val) :=
        Finset.sum_comm
    _ = ∑ di : Fin 3, ∑ dj : Fin 3, ∑ m : Fin 6,
          offsetWeight (fun c dk => w c di dj dk) m * padded x (r + di.val) (j + dj.val) (4 * q + m.val) :=
        Finset.sum_congr rfl fun _ _ => Finset.sum_comm
    _ = ∑ di : Fin 3, ∑ dj : Fin 3, ∑ c : Fin 4, ∑ dk : Fin 3,
          w c di dj dk * padded x (r + di.val) (j + dj.val) (4 * q + (c.val + dk.val)) :=
        Finset.sum_congr rfl fun di _ => Finset.sum_congr rfl fun dj _ =>
          regroup (fun c dk => w c di dj dk) (fun k => padded x (r + di.val) (j + dj.val) (4 * q + k))
            (fun c dk => hw c di dj dk) (fun k => padded_real x hx _ _ _)
    _ = ∑ di : Fin 3, ∑ c : Fin 4, ∑ dj : Fin 3, ∑ dk : Fin 3,
          w c di dj dk * padded x (r + di.val) (j + dj.val) (4 * q + (c.val + dk.val)) :=
        Finset.sum_congr rfl fun _ _ => Finset.sum_comm
    _ = conv w x r j q := Finset.sum_comm

/-- A sum over the 27 taps in row-major order is the triple sum over the three axes. -/
theorem sum_taps (f : Fin 27 → EReal) :
    ∑ k, f k = ∑ di : Fin 3, ∑ dj : Fin 3, ∑ dk : Fin 3, f ⟨9 * di.val + 3 * dj.val + dk.val, by omega⟩ := by
  rw [← Equiv.sum_comp (finProdFinEquiv (m := 3) (n := 9)) f, Fintype.sum_prod_type]
  refine Finset.sum_congr rfl fun di _ => ?_
  rw [← Equiv.sum_comp (finProdFinEquiv (m := 3) (n := 3)) (fun k : Fin 9 => f (finProdFinEquiv (m := 3) (n := 9) (di, k))),
    Fintype.sum_prod_type]
  refine Finset.sum_congr rfl fun dj _ => Finset.sum_congr rfl fun dk _ => congrArg f (Fin.ext ?_)
  show dk.val + 3 * dj.val + 9 * di.val = 9 * di.val + 3 * dj.val + dk.val
  omega

end Cert.Conv

end
-- ==== Proof.Reference.lean ====
/- The reference program over the extended reals, read at an index of its result: the window sum in its own order. -/
module

public import proofs.«01_k».proof.Proof.Gen.ReferenceIdeal.Read
public import proofs.«01_k».proof.Proof.Words
public import proofs.«01_k».proof.Proof.Conv
public import Idealize.ShloMosaic.Lib.Pointwise.Contract
public import Idealize.ShloMosaic.Lib.Pointwise.ShapeOpsCore

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Words Cert.Conv

/-! ## The padded input and the patches -/

/-- The value the border is filled with. -/
theorem border (i : S_.Idx) : val_main_call0_v0 (F := Ideal) i = (0 : EReal) := by
  show (((0#32 : BitVec 32).toInt : ℝ) : EReal) = 0
  simp

/-- The padded input. -/
theorem pad_value (x0 : (⟨S1x4x64x64x64, .f32⟩ : BufTy).Contents (Elt Ideal)) (C : Fin 4) (R J S : Fin 66) :
    val_main_v0 (F := Ideal) x0 (ValueIdx.ix5 0 C R J S) = padded (fun a b c => x0 (ValueIdx.ix5 0 C a b c)) R.val J.val S.val := by
  unfold val_main_v0 padded
  rw [pad_apply]
  split
  · rename_i h
    have h2 : 1 ≤ R.val ∧ (R.val - 1) % (0 + 1) = 0 ∧ (R.val - 1) / (0 + 1) < 64 := h (2 : Fin 5)
    have h3 : 1 ≤ J.val ∧ (J.val - 1) % (0 + 1) = 0 ∧ (J.val - 1) / (0 + 1) < 64 := h (3 : Fin 5)
    have h4 : 1 ≤ S.val ∧ (S.val - 1) % (0 + 1) = 0 ∧ (S.val - 1) / (0 + 1) < 64 := h (4 : Fin 5)
    rw [dif_pos (by omega)]
    refine congrArg x0 (funext fun a => Fin.ext ?_)
    match a with
    | ⟨0, _⟩ => show (0 - 0) / (0 + 1) = 0; rfl
    | ⟨1, _⟩ => show (C.val - 0) / (0 + 1) = C.val; omega
    | ⟨2, _⟩ => show (R.val - 1) / (0 + 1) = R.val - 1; omega
    | ⟨3, _⟩ => show (J.val - 1) / (0 + 1) = J.val - 1; omega
    | ⟨4, _⟩ => show (S.val - 1) / (0 + 1) = S.val - 1; omega
  · rename_i h
    rw [border, dif_neg]
    intro hin
    refine h fun a => ?_
    match a with
    | ⟨0, _⟩ => show 0 ≤ 0 ∧ (0 - 0) % (0 + 1) = 0 ∧ (0 - 0) / (0 + 1) < 1; omega
    | ⟨1, _⟩ => show 0 ≤ C.val ∧ (C.val - 0) % (0 + 1) = 0 ∧ (C.val - 0) / (0 + 1) < 4; omega
    | ⟨2, _⟩ => show 1 ≤ R.val ∧ (R.val - 1) % (0 + 1) = 0 ∧ (R.val - 1) / (0 + 1) < 64; omega
    | ⟨3, _⟩ => show 1 ≤ J.val ∧ (J.val - 1) % (0 + 1) = 0 ∧ (J.val - 1) / (0 + 1) < 64; omega
    | ⟨4, _⟩ => show 1 ≤ S.val ∧ (S.val - 1) % (0 + 1) = 0 ∧ (S.val - 1) / (0 + 1) < 64; omega

/-- The dimension numbers of the gather of the patches: the last three operand axes are picked by the three start words,
    the first two are copied whole. -/
abbrev dims : GatherDims S1x4x66x66x66 S7077888x3 S1x4x7077888 :=
  gather_S1x4x66x66x66_S7077888x3_S1x4x7077888_01_234_n_n_234_1_14111

/-- Where the gather finds its three start words: along row `p` of the list. -/
theorem start_idx (C : Fin 4) (p : Fin 7077888) (k : Fin dims.startIndexMap.length) (a : Fin 3) (hk : k.val = a.val) :
    dims.siIdx (ValueIdx.ix3 0 C p) k = ValueIdx.ix2 p a := by
  funext b
  match b with
  | ⟨0, _⟩ =>
    unfold GatherDims.siIdx
    have hb : ¬((⟨0, by decide⟩ : Fin S7077888x3.rank).val = dims.indexVectorDim) := by show ¬(0 : ℕ) = 1; decide
    rw [dif_neg hb]
    rfl
  | ⟨1, _⟩ =>
    unfold GatherDims.siIdx
    have hb : (⟨1, by decide⟩ : Fin S7077888x3.rank).val = dims.indexVectorDim := rfl
    rw [dif_pos hb]
    exact Fin.ext hk

/-- A copied axis reads the result's own coordinate. -/
theorem copied (C : Fin 4) (p : Fin 7077888) (idx : IVec S7077888x3 32) :
    (dims.operandIdx (ValueIdx.ix3 0 C p) idx (1 : Fin 5)).val = C.val := by
  show dims.start _ idx (1 : Fin 5) + dims.batchCoord _ (1 : Fin 5) + dims.offCoord _ (1 : Fin 5) = C.val
  rw [GatherDims.batchCoord_eq_zero _ _ _ (by decide)]
  unfold GatherDims.start GatherDims.offCoord
  rw [dif_neg (by decide), dif_pos (by decide)]
  show 0 + 0 + C.val = C.val
  omega

/-- A picked axis reads its start word, clamped into the axis. -/
theorem picked (C : Fin 4) (p : Fin 7077888) (idx : IVec S7077888x3 32) (k : Fin 3) (a : Fin 5) (ha : a.val = k.val + 2) :
    (dims.operandIdx (ValueIdx.ix3 0 C p) idx a).val = min (idx (ValueIdx.ix2 p k)).toInt.toNat 65 := by
  have hb : a ∉ dims.operandBatchingDims := by revert a; revert k; decide
  have ho : a ∉ dims.sKept := by revert a; revert k; decide
  have hs : a ∈ dims.startIndexMap := by revert a; revert k; decide
  have hi : dims.startIndexMap.idxOf a = k.val := by revert a; revert k; decide
  have hz : S1x4x66x66x66.size a - dims.sliceSizes a = 65 := by revert a; revert k; decide
  show dims.start _ idx a + dims.batchCoord _ a + dims.offCoord _ a = _
  rw [GatherDims.batchCoord_eq_zero _ _ _ hb, GatherDims.offCoord_eq_zero _ _ _ ho]
  unfold GatherDims.start
  rw [dif_pos hs, start_idx C p _ k hi, hz] <;> rfl

/-- The gather of the patches reads the padded input at the three coordinates of the list. -/
theorem patch (x0 : (⟨S1x4x64x64x64, .f32⟩ : BufTy).Contents (Elt Ideal)) (C : Fin 4) (p : Fin 7077888) :
    val_main_v63 (F := Ideal) x0 (ValueIdx.ix3 0 C p)
      = padded (fun a b c => x0 (ValueIdx.ix5 0 C a b c)) (p.val / 27 / 4096 + p.val % 27 / 9)
          (p.val / 27 / 64 % 64 + p.val % 27 / 3 % 3) (p.val / 27 % 64 + p.val % 27 % 3) := by
  have h0 : p.val / 27 / 4096 + p.val % 27 / 9 < 66 := by omega
  have h1 : p.val / 27 / 64 % 64 + p.val % 27 / 3 % 3 < 66 := by omega
  have h2 : p.val / 27 % 64 + p.val % 27 % 3 < 66 := by omega
  refine Eq.trans ?_ (pad_value x0 C ⟨_, h0⟩ ⟨_, h1⟩ ⟨_, h2⟩)
  unfold val_main_v63
  show val_main_v0 (F := Ideal) x0 (dims.operandIdx (ValueIdx.ix3 0 C p) (val_main_v62 (F := Ideal))) = _
  refine congrArg (val_main_v0 (F := Ideal) x0) (funext fun a => Fin.ext ?_)
  match a with
  | ⟨0, _⟩ =>
    have h : (dims.operandIdx (ValueIdx.ix3 0 C p) (val_main_v62 (F := Ideal)) (0 : Fin 5)).val < 1 := Fin.isLt _
    show (dims.operandIdx (ValueIdx.ix3 0 C p) (val_main_v62 (F := Ideal)) (0 : Fin 5)).val = 0
    omega
  | ⟨1, _⟩ => exact copied C p _
  | ⟨2, _⟩ => exact (picked C p _ 0 _ rfl).trans (by rw [coord0, word_clamp _ h0])
  | ⟨3, _⟩ => exact (picked C p _ 1 _ rfl).trans (by rw [coord1, word_clamp _ h1])
  | ⟨4, _⟩ => exact (picked C p _ 2 _ rfl).trans (by rw [coord2, word_clamp _ h2])

/-! ## The contraction -/

/-- The reference's product: the sum over the channels and the taps of the weight times the patch entry. -/
theorem dot_value (x0 : (⟨S1x4x64x64x64, .f32⟩ : BufTy).Contents (Elt Ideal)) (x1 : (⟨S8x4x3x3x3, .f32⟩ : BufTy).Contents (Elt Ideal))
    (o : Fin 8) (n : Fin 262144) :
    val_main_v65 (F := Ideal) x0 x1 (ValueIdx.ix3 o 0 n)
      = ∑ c : Fin 4, ∑ k : Fin 27, val_main_v43 (F := Ideal) x1 (ValueIdx.ix3 o c k) * val_main_v64 (F := Ideal) x0 (ValueIdx.ix4 0 n c k) := by
  unfold val_main_v65
  show Ideal.matmul dot_S8x4x27_S1x262144x4x27_S8x1x262144_12_23_0_01_n_n (val_main_v43 (F := Ideal) x1)
    (val_main_v64 (F := Ideal) x0) (fun _ => 0) (ValueIdx.ix3 o 0 n) = _
  rw [Ideal.matmul_apply₂_of dot_S8x4x27_S1x262144x4x27_S8x1x262144_12_23_0_01_n_n (a := 1) (b := 2) rfl (K₁ := 4) (K₂ := 27)
    rfl rfl _ _ _ _ (fun c k => ValueIdx.ix3 o c k) (fun c k => ValueIdx.ix4 0 n c k)
    (fun c k => funext fun a => match a with | ⟨0, _⟩ => rfl | ⟨1, _⟩ => rfl | ⟨2, _⟩ => rfl)
    (fun c k => funext fun a => match a with | ⟨0, _⟩ => rfl | ⟨1, _⟩ => rfl | ⟨2, _⟩ => rfl | ⟨3, _⟩ => rfl), zero_add]

/-- The reference's result at output `o` and position (a, b, d): the window sum of the block of channel `a / 16`. -/
theorem value (x0 : (⟨S1x4x64x64x64, .f32⟩ : BufTy).Contents (Elt Ideal)) (x1 : (⟨S8x4x3x3x3, .f32⟩ : BufTy).Contents (Elt Ideal))
    (o : Fin 8) (a b d : Fin 64) :
    val_main_v67 (F := Ideal) x0 x1 (ValueIdx.ix5 0 o a b d)
      = conv (fun c di dj dk => x1 (ValueIdx.ix5 o c di dj dk)) (fun r j s => x0 (ValueIdx.ix5 0 ⟨a.val / 16, by omega⟩ r j s))
          (a.val % 16 * 4 + b.val / 16) (b.val % 16 * 4 + d.val / 16) (d.val % 16) := by
  have e : idx_main_v66 (idx_main_v67 (ValueIdx.ix5 0 o a b d)) = ValueIdx.ix3 o 0 ⟨(a.val * 64 + b.val) * 64 + d.val, by omega⟩ :=
    funext fun t => match t with
    | ⟨0, _⟩ => Fin.ext (by show ((((0 * 8 + o.val) * 64 + a.val) * 64 + b.val) * 64 + d.val) / 262144 % 8 = o.val; omega)
    | ⟨1, _⟩ => rfl
    | ⟨2, _⟩ => Fin.ext (by show ((((0 * 8 + o.val) * 64 + a.val) * 64 + b.val) * 64 + d.val) % 262144 = (a.val * 64 + b.val) * 64 + d.val; omega)
  rw [val_main_v67_apply, val_main_v66_apply, e, dot_value]
  unfold conv
  refine Finset.sum_congr rfl fun c _ => ?_
  rw [sum_taps]
  refine Finset.sum_congr rfl fun di _ => Finset.sum_congr rfl fun dj _ => Finset.sum_congr rfl fun dk _ => ?_
  have ew : idx_main_v43 (ValueIdx.ix3 o c ⟨9 * di.val + 3 * dj.val + dk.val, by omega⟩) = ValueIdx.ix5 o c di dj dk :=
    funext fun t => match t with
    | ⟨0, _⟩ => Fin.ext (by show ((o.val * 4 + c.val) * 27 + (9 * di.val + 3 * dj.val + dk.val)) / 108 = o.val; omega)
    | ⟨1, _⟩ => Fin.ext (by show ((o.val * 4 + c.val) * 27 + (9 * di.val + 3 * dj.val + dk.val)) / 27 % 4 = c.val; omega)
    | ⟨2, _⟩ => Fin.ext (by show ((o.val * 4 + c.val) * 27 + (9 * di.val + 3 * dj.val + dk.val)) / 9 % 3 = di.val; omega)
    | ⟨3, _⟩ => Fin.ext (by show ((o.val * 4 + c.val) * 27 + (9 * di.val + 3 * dj.val + dk.val)) / 3 % 3 = dj.val; omega)
    | ⟨4, _⟩ => Fin.ext (by show ((o.val * 4 + c.val) * 27 + (9 * di.val + 3 * dj.val + dk.val)) % 3 = dk.val; omega)
  have ep : idx_main_v64 (ValueIdx.ix4 0 ⟨(a.val * 64 + b.val) * 64 + d.val, by omega⟩ c ⟨9 * di.val + 3 * dj.val + dk.val, by omega⟩)
      = ValueIdx.ix3 0 ⟨a.val / 16, by omega⟩ ⟨((a.val % 16 * 4 + b.val / 16) * 4096 + (b.val % 16 * 4 + d.val / 16) * 64 + (4 * (d.val % 16) + c.val)) * 27
          + (9 * di.val + 3 * dj.val + dk.val), by omega⟩ :=
    funext fun t => match t with
    | ⟨0, _⟩ => rfl
    | ⟨1, _⟩ => Fin.ext (by
        show (((0 * 262144 + ((a.val * 64 + b.val) * 64 + d.val)) * 4 + c.val) * 27 + (9 * di.val + 3 * dj.val + dk.val)) / 7077888 % 4 = a.val / 16
        omega)
    | ⟨2, _⟩ => Fin.ext (by
        show (((0 * 262144 + ((a.val * 64 + b.val) * 64 + d.val)) * 4 + c.val) * 27 + (9 * di.val + 3 * dj.val + dk.val)) % 7077888
          = ((a.val % 16 * 4 + b.val / 16) * 4096 + (b.val % 16 * 4 + d.val / 16) * 64 + (4 * (d.val % 16) + c.val)) * 27
          + (9 * di.val + 3 * dj.val + dk.val)
        omega)
  rw [val_main_v43_apply, ew, val_main_v64_apply, ep, patch]
  have hp : (((a.val % 16 * 4 + b.val / 16) * 4096 + (b.val % 16 * 4 + d.val / 16) * 64 + (4 * (d.val % 16) + c.val)) * 27
      + (9 * di.val + 3 * dj.val + dk.val)) / 27
      = (a.val % 16 * 4 + b.val / 16) * 4096 + (b.val % 16 * 4 + d.val / 16) * 64 + (4 * (d.val % 16) + c.val) := by omega
  have ht : (((a.val % 16 * 4 + b.val / 16) * 4096 + (b.val % 16 * 4 + d.val / 16) * 64 + (4 * (d.val % 16) + c.val)) * 27
      + (9 * di.val + 3 * dj.val + dk.val)) % 27 = 9 * di.val + 3 * dj.val + dk.val := by omega
  show x1 (ValueIdx.ix5 o c di dj dk) * padded _ _ _ _ = _
  rw [hp, ht]
  congr 2 <;> omega

end Cert.Reference

end
-- ==== Proof.Body.lean ====
/- What one visit of the kernel leaves in its output block: for each of the eight outputs a chain of 54 multiply-adds
   over slabs of the six gathered arrays. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Body

open Idealize.ShloMosaic Idealize.ShloMosaic.TcCoe Idealize.ShloMosaic.ValueIdx
open Cert.KernelIdeal Cert.KernelIdeal.Gen

variable {F : FTy → Type} [FloatOps F]

/-- The column of the 8 × 108 weight table that holds channel `c`, taps `di`, `dj`, `dk`. -/
abbrev tap (c : Fin 4) (di dj dk : Fin 3) : Fin 108 := ⟨c.val * 27 + di.val * 9 + dj.val * 3 + dk.val, by omega⟩

/-- The weight the kernel multiplies a slab by: the sum of output `o`'s weights over the pairs of channel and last tap
    that add up to `m`. -/
def weight (W : Fin 8 → Fin 108 → F .f32) (o : Fin 8) (di dj : Fin 3) (m : Fin 6) : F .f32 :=
  match m with
  | 0 => W o (tap 0 di dj 0)
  | 1 => Scalar.addf (W o (tap 0 di dj 1)) (W o (tap 1 di dj 0))
  | 2 => Scalar.addf (Scalar.addf (W o (tap 0 di dj 2)) (W o (tap 1 di dj 1))) (W o (tap 2 di dj 0))
  | 3 => Scalar.addf (Scalar.addf (W o (tap 1 di dj 2)) (W o (tap 2 di dj 1))) (W o (tap 3 di dj 0))
  | 4 => Scalar.addf (W o (tap 2 di dj 2)) (W o (tap 3 di dj 1))
  | 5 => W o (tap 3 di dj 2)

theorem slab_fits (di dj : Fin 3) : S66x1056.Slices ![di.val, dj.val * 16] S64x1024 := by
  revert di dj; decide

/-- The 64 × 1024 slab of a gathered array that starts at row `di` and column `16 · dj`. -/
def slab (y : FVec F S66x1056 .f32) (di dj : Fin 3) : FVec F S64x1024 .f32 :=
  extractStridedSlice S64x1024 ![di.val, dj.val * 16] y (slab_fits di dj)

/-- One product of the chain. -/
def product (W : Fin 8 → Fin 108 → F .f32) (Y : Fin 6 → FVec F S66x1056 .f32) (o : Fin 8) (m : Fin 6) (di dj : Fin 3) :
    FVec F S64x1024 .f32 :=
  mulf (broadcast S64x1024 (weight W o di dj m)) (slab (Y m) di dj)

/-- The three products of one row of taps added to what came before. -/
def addRow (W : Fin 8 → Fin 108 → F .f32) (Y : Fin 6 → FVec F S66x1056 .f32) (o : Fin 8) (m : Fin 6) (di : Fin 3)
    (a : FVec F S64x1024 .f32) : FVec F S64x1024 .f32 :=
  addf (addf (addf a (product W Y o m di 0)) (product W Y o m di 1)) (product W Y o m di 2)

/-- The nine products of one offset added to what came before. -/
def addPlane (W : Fin 8 → Fin 108 → F .f32) (Y : Fin 6 → FVec F S66x1056 .f32) (o : Fin 8) (m : Fin 6)
    (a : FVec F S64x1024 .f32) : FVec F S64x1024 .f32 :=
  addRow W Y o m 2 (addRow W Y o m 1 (addRow W Y o m 0 a))

/-- Output `o`'s chain: the 54 products in the kernel's order, the first one not added to anything. -/
def chain (W : Fin 8 → Fin 108 → F .f32) (Y : Fin 6 → FVec F S66x1056 .f32) (o : Fin 8) : FVec F S64x1024 .f32 :=
  addPlane W Y o 5 (addPlane W Y o 4 (addPlane W Y o 3 (addPlane W Y o 2 (addPlane W Y o 1
    (addRow W Y o 0 2 (addRow W Y o 0 1
      (addf (addf (product W Y o 0 0 0) (product W Y o 0 0 1)) (product W Y o 0 0 2))))))))

/-- The six gathered arrays of the block `x`: the array of offset `m` holds the padded block at every fourth position
    of the last axis, starting at `m`. -/
def gathered (x : Vec F S1x64x64x64 .f32) (m : Fin 6) : FVec F S66x1056 .f32 :=
  match m with
  | 0 => k0_pay11 (k0_pay5 x) (iota .tc S68x96 32 [0] iota_S68x96_d0_w32) (iota .tc S68x96 32 [1] iota_S68x96_d1_w32) k0_pay6 16#32 k0_pay7 k0_pay8 k0_pay9
  | 1 => k0_pay12 (k0_pay5 x) (iota .tc S68x96 32 [0] iota_S68x96_d0_w32) (iota .tc S68x96 32 [1] iota_S68x96_d1_w32) k0_pay6 16#32 k0_pay7 k0_pay8 k0_pay9
  | 2 => k0_pay13 (k0_pay5 x) (iota .tc S68x96 32 [0] iota_S68x96_d0_w32) (iota .tc S68x96 32 [1] iota_S68x96_d1_w32) k0_pay6 16#32 k0_pay7 k0_pay8 k0_pay9
  | 3 => k0_pay14 (k0_pay5 x) (iota .tc S68x96 32 [0] iota_S68x96_d0_w32) (iota .tc S68x96 32 [1] iota_S68x96_d1_w32) k0_pay6 16#32 k0_pay7 k0_pay8 k0_pay9
  | 4 => k0_pay15 (k0_pay5 x) (iota .tc S68x96 32 [0] iota_S68x96_d0_w32) (iota .tc S68x96 32 [1] iota_S68x96_d1_w32) k0_pay6 16#32 k0_pay7 k0_pay8 k0_pay9
  | 5 => k0_pay16 (k0_pay5 x) (iota .tc S68x96 32 [0] iota_S68x96_d0_w32) (iota .tc S68x96 32 [1] iota_S68x96_d1_w32) k0_pay6 16#32 k0_pay7 k0_pay8 k0_pay9

theorem weight_fits (o : Fin 8) (k : Fin 108) : ∀ a, (![o.val, k.val] : Fin 2 → ℕ) a + S1x1.size a ≤ S8x108.size a :=
  fun a => match a with
  | ⟨0, _⟩ => by show o.val + 1 ≤ 8; omega
  | ⟨1, _⟩ => by show k.val + 1 ≤ 108; omega

theorem piece_fits (o : Fin 8) : ∀ a, (![o.val, 0, 0, 0] : Fin 4 → ℕ) a + (![1, 1, 64, 1024] : Fin 4 → ℕ) a ≤ S8x1x64x1024.size a :=
  fun a => match a with
  | ⟨0, _⟩ => by show o.val + 1 ≤ 8; omega
  | ⟨1, _⟩ => by show 0 + 1 ≤ 1; omega
  | ⟨2, _⟩ => by show 0 + 64 ≤ 64; omega
  | ⟨3, _⟩ => by show 0 + 1024 ≤ 1024; omega

/-- The store of output `o`'s chain: row `o` of the output block. -/
def piece (acc : Fin 8 → FVec F S64x1024 .f32) (o : Fin 8) : View.Piece (Elt F) S8x1x64x1024 .f32 :=
  ⟨Rect.unit ![o.val, 0, 0, 0] ![1, 1, 64, 1024] (piece_fits o), shapeCast S1x1x64x1024 (acc o) shapeCasts_S64x1024_S1x1x64x1024⟩

section Run
variable (c : Dev nD) (i : grid0.Coords) (arg1 : Memref sig .tc .smem S8x108 .f32) (harg1 : arg1.IsWhole)
  (arg2 : Memref sig .tc .vmem S1x64x64x64 .f32) (harg2 : arg2.IsWhole)
  (arg3 : Memref sig .tc .vmem S8x1x64x1024 .f32) (harg3 : arg3.IsWhole)
  (x0 : Vec F S8x108 .f32) (x1 : Vec F S1x64x64x64 .f32)

/-- A scalar load of the weight table, as the body makes it. -/
def loadW (o : Fin 8) (k : Fin 108) : Elt F .f32 :=
  View.readAt (Elt F) arg1.view (Rect.unit (s := S8x108) ![o.val, k.val] S1x1.size (weight_fits o k)).toLoadRect
    (harg1.unread x0) (Shape.Idx.first (show 0 < S1x1.numel by rw [numel1_S1x1]; exact Nat.one_pos))

/-- The load of the input block, as the body makes it. -/
def loadX : Vec F S1x64x64x64 .f32 :=
  View.readAt (Elt F) arg2.view (Rect.unit ![0, 0, 0, 0] S1x64x64x64.size inb_S1x64x64x64_S1x64x64x64_0_0_0_0).toLoadRect (harg2.unread x1)

/-- The eight stores of the body are the eight chains. -/
theorem pieces_eq : (kernelRun0_A c i arg1 harg1 arg2 harg2 arg3 harg3 x0 x1).1
    = [piece (chain (loadW arg1 harg1 x0) (gathered (loadX arg2 harg2 x1))) 7,
       piece (chain (loadW arg1 harg1 x0) (gathered (loadX arg2 harg2 x1))) 6,
       piece (chain (loadW arg1 harg1 x0) (gathered (loadX arg2 harg2 x1))) 5,
       piece (chain (loadW arg1 harg1 x0) (gathered (loadX arg2 harg2 x1))) 4,
       piece (chain (loadW arg1 harg1 x0) (gathered (loadX arg2 harg2 x1))) 3,
       piece (chain (loadW arg1 harg1 x0) (gathered (loadX arg2 harg2 x1))) 2,
       piece (chain (loadW arg1 harg1 x0) (gathered (loadX arg2 harg2 x1))) 1,
       piece (chain (loadW arg1 harg1 x0) (gathered (loadX arg2 harg2 x1))) 0] := by
  unfold kernelRun0_A
  rfl

/-- A weight load reads the table. -/
theorem loadW_eq (o : Fin 8) (k : Fin 108) : loadW arg1 harg1 x0 o k = x0 (ix2 o k) := by
  unfold loadW
  simp only [View.readAt_eq_ld, harg1.read_unread]
  show x0 _ = x0 _
  refine congrArg x0 (funext fun a => ?_)
  match a with
  | ⟨0, _⟩ => exact Fin.ext (by show o.val + 0 * 1 = o.val; omega)
  | ⟨1, _⟩ => exact Fin.ext (by show k.val + 0 * 1 = k.val; omega)

/-- The block load reads the whole block. -/
theorem loadX_eq : loadX arg2 harg2 x1 = x1 := by
  unfold loadX
  have hz : (![0, 0, 0, 0] : Fin 4 → Nat) = fun _ => 0 := funext fun a => by fin_cases a <;> rfl
  simp only [View.readAt_eq_ld, harg2.read_unread, View.ld_unit_zero (S := S1x64x64x64) hz]

/-- The store of output `o` covers row `o` of the block, in order. -/
theorem piece_idx (o : Fin 8) (z0 z1 : Fin 1) (r : Fin 64) (l : Fin 1024) :
    (Rect.unit (s := S8x1x64x1024) ![o.val, 0, 0, 0] ![1, 1, 64, 1024] (piece_fits o)).emb (ix4 z0 z1 r l) = ix4 o z1 r l := by
  funext a
  match a with
  | ⟨0, _⟩ => exact Fin.ext (by show o.val + 1 * z0.val = o.val; omega)
  | ⟨1, _⟩ => exact Fin.ext (by show 0 + 1 * z1.val = z1.val; omega)
  | ⟨2, _⟩ => exact Fin.ext (by show 0 + 1 * r.val = r.val; omega)
  | ⟨3, _⟩ => exact Fin.ext (by show 0 + 1 * l.val = l.val; omega)

/-- One store, read at an index of its rectangle. -/
theorem piece_apply (acc : Fin 8 → FVec F S64x1024 .f32) (o : Fin 8) (x : S1x1x64x1024.Idx) :
    shapeCast S1x1x64x1024 (acc o) shapeCasts_S64x1024_S1x1x64x1024 x
      = (fun y : S8x1x64x1024.Idx => acc (y 0) (ix2 (y 2) (y 3)))
          ((Rect.unit (s := S8x1x64x1024) ![o.val, 0, 0, 0] ![1, 1, 64, 1024] (piece_fits o)).emb x) := by
  obtain ⟨z0, z1, r, l, rfl⟩ : ∃ (z0 z1 : Fin 1) (r : Fin 64) (l : Fin 1024), x = ix4 z0 z1 r l := ⟨x 0, x 1, x 2, x 3, eq_ix4 x⟩
  rw [piece_idx]
  show _ = acc o (ix2 r l)
  refine shapeCast_apply (acc o) shapeCasts_S64x1024_S1x1x64x1024 _ (ix2 r l) ?_
  rw [Shape.rowMajor_val_two, Shape.rowMajor_val_four]
  show r.val * 1024 + l.val = ((z0.val * 1 + z1.val) * 64 + r.val) * 1024 + l.val
  omega

/-- What the body leaves in the output block: row `o` is output `o`'s chain over the weight table and the block. -/
theorem out_apply (o : Fin 8) (z : Fin 1) (r : Fin 64) (l : Fin 1024) :
    out0_A_2 c i arg1 harg1 arg2 harg2 arg3 harg3 x0 x1 (ix4 o z r l)
      = chain (F := F) (fun o k => x0 (ix2 o k)) (gathered x1) o (ix2 r l) := by
  have hW : loadW arg1 harg1 x0 = fun o k => x0 (ix2 o k) := funext fun o => funext fun k => loadW_eq arg1 harg1 x0 o k
  unfold out0_A_2
  rw [View.read_writes_eq_canon _ _ _ (cover0_A_2 c i arg1 harg1 arg2 harg2 arg3 harg3 x0 x1)]
  refine (View.canon_apply_of_pieces
    (fun y => chain (F := F) (fun o k => x0 (ix2 o k)) (gathered x1) (y 0) (ix2 (y 2) (y 3)))
    _ (fun p hp x => ?_) _ (cover0_A_2 c i arg1 harg1 arg2 harg2 arg3 harg3 x0 x1 _))
  rw [pieces_eq, hW, loadX_eq] at hp
  obtain ⟨o, rfl⟩ : ∃ o, p = piece (chain (F := F) (fun o k => x0 (ix2 o k)) (gathered x1)) o := by
    simp only [List.mem_cons, List.not_mem_nil, or_false] at hp
    rcases hp with h | h | h | h | h | h | h | h <;> exact ⟨_, h⟩
  exact piece_apply (F := F) (chain (F := F) (fun o k => x0 (ix2 o k)) (gathered x1)) o x

end Run

end Cert.Body

end
-- ==== Proof.Gathered.lean ====
/- The six gathered arrays of the kernel, over the extended reals: the zero-padded block at every fourth position. -/
module

public import proofs.«01_k».proof.Proof.Body
public import proofs.«01_k».proof.Proof.Joins
public import proofs.«01_k».proof.Proof.Conv
public import Idealize.ShloMosaic.Lib.Pointwise.Contract

@[expose] public section

set_option maxRecDepth 16384

noncomputable section

namespace Cert.Gathered

open Idealize.ShloMosaic Idealize.ShloMosaic.TcCoe
open Cert.KernelIdeal Cert.KernelIdeal.Gen Cert.Joins Cert.Conv Cert.Body

/-- The word zero converted to a float is zero. -/
theorem zero_word : Scalar.sitofp (F := Ideal) .f32 0#32 = (0 : EReal) := by
  rw [Ideal.scalar_sitofp_def]; simp

/-- The block with its leading unit axis dropped. -/
theorem cube_apply (x : Vec Ideal S1x64x64x64 .f32) (h : S1x64x64x64.ShapeCasts S64x64x64) (a b c : Fin 64) :
    shapeCast S64x64x64 x h (ValueIdx.ix3 a b c) = x (ValueIdx.ix4 0 a b c) :=
  shapeCast_apply x h (ValueIdx.ix3 a b c) (ValueIdx.ix4 0 a b c) (by
    rw [Shape.rowMajor_val_four, Shape.rowMajor_val_three]
    show ((0 * 64 + a.val) * 64 + b.val) * 64 + c.val = (a.val * 64 + b.val) * 64 + c.val
    omega)

/-- The kernel's padded block, flattened to 4356 rows of 68: row `66 R + J`, column `S` is the padded block there. -/
theorem padded_apply (x : Vec Ideal S1x64x64x64 .f32) (R J : Fin 66) (S : Fin 68) :
    k0_pay5 x (ValueIdx.ix2 ⟨R.val * 66 + J.val, by omega⟩ S) = padded (fun a b c => x (ValueIdx.ix4 0 a b c)) R.val J.val S.val := by
  unfold k0_pay5
  rw [shapeCast_apply _ _ _ (ValueIdx.ix3 R J S) (by
    rw [Shape.rowMajor_val_three, Shape.rowMajor_val_two]; rfl)]
  rw [glue2 (a := 65) (b := 3) (n := 68) _ _ _ rfl]
  split
  · rw [glue2 (a := 1) (b := 64) (n := 65) _ _ _ rfl]
    split
    · show Scalar.sitofp (F := Ideal) .f32 0#32 = _; rw [zero_word]; unfold padded; rw [dif_neg (by (try dsimp only at *); omega)]
    · rw [glue1 (a := 65) (b := 1) (n := 66) _ _ _ rfl]
      split
      · rw [glue1 (a := 1) (b := 64) (n := 65) _ _ _ rfl]
        split
        · show Scalar.sitofp (F := Ideal) .f32 0#32 = _; rw [zero_word]; unfold padded; rw [dif_neg (by (try dsimp only at *); omega)]
        · rw [glue0 (a := 65) (b := 1) (n := 66) _ _ _ rfl]
          split
          · rw [glue0 (a := 1) (b := 64) (n := 65) _ _ _ rfl]
            split
            · show Scalar.sitofp (F := Ideal) .f32 0#32 = _; rw [zero_word]; unfold padded; rw [dif_neg (by (try dsimp only at *); omega)]
            · rw [cube_apply]; unfold padded; rw [dif_pos (by (try dsimp only at *); omega)]
          · show Scalar.sitofp (F := Ideal) .f32 0#32 = _; rw [zero_word]; unfold padded; rw [dif_neg (by (try dsimp only at *); omega)]
      · show Scalar.sitofp (F := Ideal) .f32 0#32 = _; rw [zero_word]; unfold padded; rw [dif_neg (by (try dsimp only at *); omega)]
  · show Scalar.sitofp (F := Ideal) .f32 0#32 = _; rw [zero_word]; unfold padded; rw [dif_neg (by (try dsimp only at *); omega)]

/-- The kernel's selection matrix has a one where the row is four times the column's last four bits plus its upper bits,
    and a zero elsewhere; the array it makes is the padded block times that matrix. -/
theorem selection : ∃ mask : IVec S68x96 32,
    (∀ (v : FVec Ideal S4356x68 .f32), k0_pay10 v (iota .tc S68x96 32 [0] iota_S68x96_d0_w32)
        (iota .tc S68x96 32 [1] iota_S68x96_d1_w32) k0_pay6 16#32 k0_pay7 k0_pay8 k0_pay9
      = shapeCast S66x66x96 (matmul dot_S4356x68_S68x96_S4356x96_1_0_0_1_n_n none v (sitofp .f32 mask)
          (constant S4356x96 .f32 0x00000000#32)) shapeCasts_S4356x96_S66x66x96)
    ∧ ∀ (k : Fin 68) (c : Fin 96), mask (ValueIdx.ix2 k c) = if k.val = 4 * (c.val % 16) + c.val / 16 then 1#32 else 0#32 := by
  refine ⟨_, fun v => rfl, ?_⟩
  decide +kernel

/-- The product with the selection matrix picks one column of the padded block. -/
theorem planes_apply (x : Vec Ideal S1x64x64x64 .f32) (R J : Fin 66) (c : Fin 96) :
    k0_pay10 (k0_pay5 x) (iota .tc S68x96 32 [0] iota_S68x96_d0_w32)
        (iota .tc S68x96 32 [1] iota_S68x96_d1_w32) k0_pay6 16#32 k0_pay7 k0_pay8 k0_pay9 (ValueIdx.ix3 R J c)
      = padded (fun a b c => x (ValueIdx.ix4 0 a b c)) R.val J.val (4 * (c.val % 16) + c.val / 16) := by
  obtain ⟨mask, hm, hw⟩ := selection
  rw [hm, shapeCast_apply _ _ _ (ValueIdx.ix2 ⟨R.val * 66 + J.val, by omega⟩ c) (by
    rw [Shape.rowMajor_val_three, Shape.rowMajor_val_two]; rfl)]
  show Ideal.matmul dot_S4356x68_S68x96_S4356x96_1_0_0_1_n_n (k0_pay5 x) (sitofp (F := Ideal) .f32 mask)
    (constant (F := Ideal) S4356x96 .f32 0x00000000#32) (ValueIdx.ix2 ⟨R.val * 66 + J.val, by omega⟩ c) = _
  rw [Ideal.matmul_apply₁_of dot_S4356x68_S68x96_S4356x96_1_0_0_1_n_n (a := 1) rfl (K := 68) rfl _ _ _ _
    (fun k => ValueIdx.ix2 ⟨R.val * 66 + J.val, by omega⟩ k) (fun k => ValueIdx.ix2 k c)
    (fun k => funext fun a => match a with | ⟨0, _⟩ => rfl | ⟨1, _⟩ => rfl)
    (fun k => funext fun a => match a with | ⟨0, _⟩ => rfl | ⟨1, _⟩ => rfl)]
  have hacc : (constant S4356x96 .f32 0x00000000#32 : FVec Ideal S4356x96 .f32)
      (ValueIdx.ix2 ⟨R.val * 66 + J.val, by omega⟩ c) = (0 : EReal) := by
    show Idealize.ShloMosaic.Ideal.ofBits .f32 0x00000000#32 = 0
    simp [Idealize.ShloMosaic.Ideal.ofBits, Idealize.ShloMosaic.Ideal.ieee]
  rw [hacc, zero_add, Finset.sum_eq_single (⟨4 * (c.val % 16) + c.val / 16, by omega⟩ : Fin 68)]
  · have h1 : (sitofp (F := Ideal) .f32 mask) (ValueIdx.ix2 ⟨4 * (c.val % 16) + c.val / 16, by omega⟩ c) = (1 : EReal) := by
      show (((mask _).toInt : ℝ) : EReal) = 1
      rw [hw, if_pos rfl]; simp
    rw [h1, mul_one, padded_apply]
  · intro k _ hk
    have h0 : (sitofp (F := Ideal) .f32 mask) (ValueIdx.ix2 k c) = (0 : EReal) := by
      show (((mask _).toInt : ℝ) : EReal) = 0
      rw [hw, if_neg fun h => hk (Fin.ext h)]; simp
    rw [h0, mul_zero]
  · intro h; exact absurd (Finset.mem_univ _) h

/-- Sixteen planes cut out and laid side by side: column `u` is plane `off + u % 16` at position `u / 16`. -/
theorem cut_apply (y : FVec Ideal S66x66x96 .f32) (off : ℕ) (ho : off + 16 ≤ 96)
    (hs : S66x66x96.Slices ![0, 0, off] S66x66x16) (hc : S66x66x16.ShapeCasts S66x1056) (R : Fin 66) (u : Fin 1056) :
    shapeCast S66x1056 (extractStridedSlice S66x66x16 ![0, 0, off] y hs) hc (ValueIdx.ix2 R u)
      = y (ValueIdx.ix3 R ⟨u.val / 16, by omega⟩ ⟨off + u.val % 16, by omega⟩) := by
  rw [shapeCast_apply _ hc _ (ValueIdx.ix3 R ⟨u.val / 16, by omega⟩ ⟨u.val % 16, by omega⟩) (by
    rw [Shape.rowMajor_val_three, Shape.rowMajor_val_two]
    show (R.val * 66 + u.val / 16) * 16 + u.val % 16 = R.val * 1056 + u.val
    omega)]
  refine congrArg y (funext fun a => ?_)
  match a with
  | ⟨0, _⟩ => exact Fin.ext (by show 0 + R.val = R.val; omega)
  | ⟨1, _⟩ => exact Fin.ext (by show 0 + u.val / 16 = u.val / 16; omega)
  | ⟨2, _⟩ => rfl

/-- The gathered array of offset `m`: row `R`, column `u` is the padded block at row `R`, position `u / 16` and depth
    `4 (u % 16) + m`. -/
theorem gathered_apply (x : Vec Ideal S1x64x64x64 .f32) (m : Fin 6) (R : Fin 66) (u : Fin 1056) :
    gathered x m (ValueIdx.ix2 R u) = padded (fun a b c => x (ValueIdx.ix4 0 a b c)) R.val (u.val / 16) (4 * (u.val % 16) + m.val) := by
  have key : ∀ (off : ℕ) (ho : off + 16 ≤ 96) (hm : off = 16 * m.val)
      (hs : S66x66x96.Slices ![0, 0, off] S66x66x16) (hc : S66x66x16.ShapeCasts S66x1056),
      shapeCast S66x1056 (extractStridedSlice S66x66x16 ![0, 0, off] (k0_pay10 (k0_pay5 x)
        (iota .tc S68x96 32 [0] iota_S68x96_d0_w32)
        (iota .tc S68x96 32 [1] iota_S68x96_d1_w32) k0_pay6 16#32 k0_pay7 k0_pay8 k0_pay9) hs) hc (ValueIdx.ix2 R u)
      = padded (fun a b c => x (ValueIdx.ix4 0 a b c)) R.val (u.val / 16) (4 * (u.val % 16) + m.val) := by
    intro off ho hm hs hc
    rw [cut_apply _ off ho hs hc, planes_apply]
    congr 1
    show 4 * ((off + u.val % 16) % 16) + (off + u.val % 16) / 16 = 4 * (u.val % 16) + m.val
    omega
  match m, key with
  | 0, key => exact key 0 (by omega) rfl slices_S66x66x96_o0_0_0_S66x66x16 shapeCasts_S66x66x16_S66x1056
  | 1, key => exact key 16 (by omega) rfl slices_S66x66x96_o0_0_16_S66x66x16 shapeCasts_S66x66x16_S66x1056
  | 2, key => exact key 32 (by omega) rfl slices_S66x66x96_o0_0_32_S66x66x16 shapeCasts_S66x66x16_S66x1056
  | 3, key => exact key 48 (by omega) rfl slices_S66x66x96_o0_0_48_S66x66x16 shapeCasts_S66x66x16_S66x1056
  | 4, key => exact key 64 (by omega) rfl slices_S66x66x96_o0_0_64_S66x66x16 shapeCasts_S66x66x16_S66x1056
  | 5, key => exact key 80 (by omega) rfl slices_S66x66x96_o0_0_80_S66x66x16 shapeCasts_S66x66x16_S66x1056

/-- A slab at an index is the array at the shifted index. -/
theorem slab_apply (y : FVec Ideal S66x1056 .f32) (di dj : Fin 3) (r : Fin 64) (l : Fin 1024) :
    slab y di dj (ValueIdx.ix2 r l) = y (ValueIdx.ix2 ⟨r.val + di.val, by omega⟩ ⟨l.val + 16 * dj.val, by omega⟩) := by
  refine congrArg y (funext fun a => ?_)
  match a with
  | ⟨0, _⟩ => exact Fin.ext (by show di.val + r.val = r.val + di.val; omega)
  | ⟨1, _⟩ => exact Fin.ext (by show dj.val * 16 + l.val = l.val + 16 * dj.val; omega)

/-- Over the extended reals the weight of an offset is the sum of the weights that meet there. -/
theorem weight_eq (W : Fin 8 → Fin 108 → EReal) (o : Fin 8) (di dj : Fin 3) (m : Fin 6) :
    weight (F := Ideal) W o di dj m = offsetWeight (fun c dk => W o (tap c di dj dk)) m := by
  match m with
  | 0 => rfl
  | 1 => rfl
  | 2 => rfl
  | 3 => rfl
  | 4 => rfl
  | 5 => rfl

/-- Over the extended reals a chain is the sum of its products. -/
theorem chain_apply (W : Fin 8 → Fin 108 → EReal) (Y : Fin 6 → FVec Ideal S66x1056 .f32) (o : Fin 8) (i : S64x1024.Idx) :
    chain (F := Ideal) W Y o i = ∑ m : Fin 6, ∑ di : Fin 3, ∑ dj : Fin 3, product (F := Ideal) W Y o m di dj i := by
  have hrow : ∀ m di a, addRow (F := Ideal) W Y o m di a i = a i + ∑ dj : Fin 3, product (F := Ideal) W Y o m di dj i := by
    intro m di a
    rw [Fin.sum_univ_three, ← add_assoc, ← add_assoc]
    rfl
  have hplane : ∀ m a, addPlane (F := Ideal) W Y o m a i
      = a i + ∑ di : Fin 3, ∑ dj : Fin 3, product (F := Ideal) W Y o m di dj i := by
    intro m a
    unfold addPlane
    rw [hrow m 2, hrow m 1, hrow m 0,
      Fin.sum_univ_three (fun di => ∑ dj : Fin 3, product (F := Ideal) W Y o m di dj i), ← add_assoc, ← add_assoc]
  unfold chain
  rw [hplane, hplane, hplane, hplane, hplane, hrow, hrow, Fin.sum_univ_six, Fin.sum_univ_three (fun di => ∑ dj : Fin 3, product (F := Ideal) W Y o 0 di dj i),
    Fin.sum_univ_three (fun dj => product (F := Ideal) W Y o 0 0 dj i)]
  rfl

/-- Output `o`'s chain over the gathered arrays of a block of reals is the window sum of that block. -/
theorem chain_eq_conv (W : Fin 8 → Fin 108 → EReal) (x : Vec Ideal S1x64x64x64 .f32)
    (hW : ∀ o k, ∃ q : ℝ, W o k = q) (hx : ∀ i, ∃ q : ℝ, x i = (q : EReal)) (o : Fin 8) (r : Fin 64) (l : Fin 1024) :
    chain (F := Ideal) W (gathered x) o (ValueIdx.ix2 r l)
      = conv (fun c di dj dk => W o (tap c di dj dk)) (fun a b c => x (ValueIdx.ix4 0 a b c)) r.val (l.val / 16) (l.val % 16) := by
  rw [← conv_by_offset _ _ _ _ _ (fun _ _ _ _ => hW _ _) (fun _ _ _ => hx _), chain_apply]
  refine Finset.sum_congr rfl fun m _ => Finset.sum_congr rfl fun di _ => Finset.sum_congr rfl fun dj _ => ?_
  show weight (F := Ideal) W o di dj m * slab (gathered x m) di dj (ValueIdx.ix2 r l) = _
  rw [weight_eq, slab_apply, gathered_apply]
  congr 2
  · show (l.val + 16 * dj.val) / 16 = l.val / 16 + dj.val
    omega
  · show 4 * ((l.val + 16 * dj.val) % 16) + m.val = 4 * (l.val % 16) + m.val
    omega

end Cert.Gathered

end
-- ==== Proof.Result.lean ====
/- The kernel program's result over the extended reals: what its four visits leave in the result array, and what the
   host makes of it. -/
module

public import proofs.«01_k».proof.Proof.Gathered
public import Idealize.ShloMosaic.Lib.Claim
public import Idealize.ShloMosaic.Lib.Tactic

@[expose] public section

set_option maxRecDepth 16384

noncomputable section

namespace Cert.Result

open Idealize.ShloMosaic Idealize.ShloMosaic.TcCoe Idealize.SL.Sem
open Idealize.ShloMosaic.Pipeline (Dat)
open Cert.KernelIdeal Cert.KernelIdeal.Gen Cert.Conv Cert.Body Cert.Gathered

variable (m : (ℓ : Loc nD τ sig) → Buf (Elt Ideal) ℓ) (c : Dev nD)

/-- The input argument. -/
abbrev argX : Vec Ideal S1x4x64x64x64 .f32 := m ((c.tc : Thread nD τ).loc main_arg0)
/-- The weight argument. -/
abbrev argW : Vec Ideal S8x4x3x3x3 .f32 := m ((c.tc : Thread nD τ).loc main_arg1)

/-- The array the input window reads is the input with its leading unit axis dropped. -/
theorem entry_x : V m c main_v0 = shapeCast S4x64x64x64 (argX m c) shapeCasts_S1x4x64x64x64_S4x64x64x64 := by
  first
  | (entry_read; done)
  | (entry_read; rfl)
  | rfl

/-- The array the weight window reads is the weights as a table of 8 rows. -/
theorem entry_w : V m c main_v1 = shapeCast S8x108 (argW m c) shapeCasts_S8x4x3x3x3_S8x108 := by
  first
  | (entry_read; done)
  | (entry_read; rfl)
  | rfl

/-- Where the input window sits at each point. -/
theorem where_x (t : Fin cfg0.N) : win0_1.index t 0 = t.val ∧ win0_1.index t 1 = 0 ∧ win0_1.index t 2 = 0 ∧ win0_1.index t 3 = 0 := by
  rcases fin_N0 t with rfl | rfl | rfl | rfl <;> decide

/-- Where the weight window sits at each point. -/
theorem where_w (t : Fin cfg0.N) : win0_0.index t 0 = 0 ∧ win0_0.index t 1 = 0 := by
  rcases fin_N0 t with rfl | rfl | rfl | rfl <;> decide

/-- Where the output window sits at each point. -/
theorem where_o (t : Fin cfg0.N) : win0_2.index t 0 = 0 ∧ win0_2.index t 1 = t.val ∧ win0_2.index t 2 = 0 ∧ win0_2.index t 3 = 0 := by
  rcases fin_N0 t with rfl | rfl | rfl | rfl <;> decide

/-- The input block of a point is that channel of the input. -/
theorem block_x (t : Fin cfg0.N) (C : Fin 4) (hC : t.val = C.val) (a b d : Fin 64) :
    (iblk m c 1 t : Vec Ideal S1x64x64x64 .f32) (ValueIdx.ix4 0 a b d) = argX m c (ValueIdx.ix5 0 C a b d) := by
  obtain ⟨i0, i1, i2, i3⟩ := where_x t
  unfold iblk
  rw [View.read_apply]
  show V m c main_v0 _ = _
  rw [entry_x]
  refine shapeCast_apply (argX m c) _ _ (ValueIdx.ix5 0 C a b d) ?_
  have e : (((cfg0.win 1).blk t).view.emb (ValueIdx.ix4 (0 : Fin 1) a b d) : S4x64x64x64.Idx) = ValueIdx.ix4 C a b d := by
    funext k
    apply Fin.ext
    match k with
    | ⟨0, _⟩ => show win0_1.index t 0 * 1 + 1 * 0 = C.val; rw [i0]; omega
    | ⟨1, _⟩ => show win0_1.index t 1 * 64 + 1 * a.val = a.val; rw [i1]; omega
    | ⟨2, _⟩ => show win0_1.index t 2 * 64 + 1 * b.val = b.val; rw [i2]; omega
    | ⟨3, _⟩ => show win0_1.index t 3 * 64 + 1 * d.val = d.val; rw [i3]; omega
  refine Eq.trans ?_ (congrArg (fun j : S4x64x64x64.Idx => (S4x64x64x64.rowMajor j).val) e.symm)
  rw [Shape.rowMajor_val_five, Shape.rowMajor_val_four]
  show ((((0 : ℕ) * 4 + C.val) * 64 + a.val) * 64 + b.val) * 64 + d.val = ((C.val * 64 + a.val) * 64 + b.val) * 64 + d.val
  omega

/-- The weight block of a point is the weight table: output, then channel and the three taps in row-major order. -/
theorem block_w (t : Fin cfg0.N) (o : Fin 8) (ch : Fin 4) (di dj dk : Fin 3) :
    (iblk m c 0 t : Vec Ideal S8x108 .f32) (ValueIdx.ix2 o (tap ch di dj dk)) = argW m c (ValueIdx.ix5 o ch di dj dk) := by
  obtain ⟨i0, i1⟩ := where_w t
  unfold iblk
  rw [View.read_apply]
  show V m c main_v1 _ = _
  rw [entry_w]
  refine shapeCast_apply (argW m c) _ _ (ValueIdx.ix5 o ch di dj dk) ?_
  have e : (((cfg0.win 0).blk t).view.emb (ValueIdx.ix2 o (tap ch di dj dk)) : S8x108.Idx) = ValueIdx.ix2 o (tap ch di dj dk) := by
    funext k
    apply Fin.ext
    match k with
    | ⟨0, _⟩ => show win0_0.index t 0 * 8 + 1 * o.val = o.val; rw [i0]; omega
    | ⟨1, _⟩ => show win0_0.index t 1 * 108 + 1 * (tap ch di dj dk).val = (tap ch di dj dk).val; rw [i1]; omega
  refine Eq.trans ?_ (congrArg (fun j : S8x108.Idx => (S8x108.rowMajor j).val) e.symm)
  rw [Shape.rowMajor_val_five, Shape.rowMajor_val_two]
  show (((o.val * 4 + ch.val) * 3 + di.val) * 3 + dj.val) * 3 + dk.val
    = o.val * 108 + (ch.val * 27 + di.val * 9 + dj.val * 3 + dk.val)
  omega

/-- The result array the kernel is to leave: at output `o`, channel `C`, row `r` and lane `l`, the window sum of the
    channel's block. -/
def target : Vec Ideal S8x4x64x1024 .f32 := fun i =>
  conv (fun ch di dj dk => argW m c (ValueIdx.ix5 (i 0) ch di dj dk)) (fun a b d => argX m c (ValueIdx.ix5 0 (i 1) a b d))
    (i 2).val ((i 3).val / 16) ((i 3).val % 16)

section Real
variable (hx : ∀ i, ∃ q : ℝ, argX m c i = (q : EReal)) (hw : ∀ i, ∃ q : ℝ, argW m c i = (q : EReal))
include hx hw

/-- What a visit leaves in the output block. -/
theorem visit (t : Fin cfg0.N) (C : Fin 4) (hC : t.val = C.val) (o : Fin 8) (z : Fin 1) (r : Fin 64) (l : Fin 1024) :
    (outsAt0 m c t : Vec Ideal S8x1x64x1024 .f32) (ValueIdx.ix4 o z r l) = target m c (ValueIdx.ix4 o C r l) := by
  unfold outsAt0
  have hX : ∀ i, ∃ q : ℝ, (iblk m c 1 t : Vec Ideal S1x64x64x64 .f32) i = (q : EReal) := by
    intro i
    obtain ⟨z, a, b, d, rfl⟩ : ∃ (z : Fin 1) (a b d : Fin 64), i = ValueIdx.ix4 z a b d := ⟨i 0, i 1, i 2, i 3, ValueIdx.eq_ix4 i⟩
    obtain rfl : z = 0 := Subsingleton.elim _ _
    rw [block_x m c t C hC]
    exact hx _
  have hW : ∀ (o : Fin 8) (k : Fin 108), ∃ q : ℝ, (iblk m c 0 t : Vec Ideal S8x108 .f32) (ValueIdx.ix2 o k) = (q : EReal) := by
    intro o k
    have hk : k = tap ⟨k.val / 27, by omega⟩ ⟨k.val / 9 % 3, by omega⟩ ⟨k.val / 3 % 3, by omega⟩ ⟨k.val % 3, by omega⟩ :=
      Fin.ext (by show k.val = k.val / 27 * 27 + k.val / 9 % 3 * 9 + k.val / 3 % 3 * 3 + k.val % 3; omega)
    rw [hk, block_w]
    exact hw _
  refine (out_apply c _ _ _ _ _ _ _ _ _ o z r l).trans ?_
  refine (chain_eq_conv _ _ hW hX o r l).trans ?_
  unfold target
  have e1 : (fun (ch : Fin 4) (di dj dk : Fin 3) => (iblk m c 0 t : Vec Ideal S8x108 .f32) (ValueIdx.ix2 o (tap ch di dj dk)))
      = fun ch di dj dk => argW m c (ValueIdx.ix5 o ch di dj dk) :=
    funext fun ch => funext fun di => funext fun dj => funext fun dk => block_w m c t o ch di dj dk
  have e2 : (fun a b d : Fin 64 => (iblk m c 1 t : Vec Ideal S1x64x64x64 .f32) (ValueIdx.ix4 0 a b d))
      = fun a b d => argX m c (ValueIdx.ix5 0 C a b d) :=
    funext fun a => funext fun b => funext fun d => block_x m c t C hC a b d
  rw [e1, e2]

/-- What a visit writes back is its block of the target. -/
theorem flushed_eq (t : Fin cfg0.N) :
    (dats m 0 c).flushed 2 t = ((cfg0.win 2).blk t).view.read (Elt Ideal) (target m c) := by
  have hN : cfg0.N = 4 := N_0
  have ht : t.val < 4 := by have := t.isLt; omega
  obtain ⟨i0, i1, i2, i3⟩ := where_o t
  show (cfg0.win 2).cut (grid0.coords t) ((dats m 0 c).after 2 t) = _
  rw [after0_2]
  funext j
  rw [View.read_apply]
  obtain ⟨o, z, r, l, rfl⟩ : ∃ (o : Fin 8) (z : Fin 1) (r : Fin 64) (l : Fin 1024), j = ValueIdx.ix4 o z r l :=
    ⟨j 0, j 1, j 2, j 3, ValueIdx.eq_ix4 j⟩
  obtain rfl : z = 0 := Subsingleton.elim _ _
  have e : (((cfg0.win 2).blk t).view.emb (ValueIdx.ix4 o (0 : Fin 1) r l) : S8x4x64x1024.Idx) = ValueIdx.ix4 o ⟨t.val, ht⟩ r l := by
    funext k
    apply Fin.ext
    match k with
    | ⟨0, _⟩ => show win0_2.index t 0 * 8 + 1 * o.val = o.val; rw [i0]; omega
    | ⟨1, _⟩ => show win0_2.index t 1 * 1 + 1 * 0 = t.val; rw [i1]; omega
    | ⟨2, _⟩ => show win0_2.index t 2 * 64 + 1 * r.val = r.val; rw [i2]; omega
    | ⟨3, _⟩ => show win0_2.index t 3 * 1024 + 1 * l.val = l.val; rw [i3]; omega
  show (outsAt0 m c t : Vec Ideal S8x1x64x1024 .f32) (ValueIdx.ix4 o 0 r l) = target m c (((cfg0.win 2).blk t).view.emb (ValueIdx.ix4 o (0 : Fin 1) r l))
  rw [visit m c hx hw t ⟨t.val, ht⟩ rfl, e]

/-- After the four visits the result array is the target. -/
theorem final : (dats m 0 c).arrAt 2 cfg0.N = target m c :=
  (dats m 0 c).arrAt_eq_of_cover 2 (target m c) (fun t _ => flushed_eq m c hx hw t) fun i => by
    have h0 : (i 0 : ℕ) < 8 := (i 0).isLt
    have h1 : (i 1 : ℕ) < 4 := (i 1).isLt
    have h2 : (i 2 : ℕ) < 64 := (i 2).isLt
    have h3 : (i 3 : ℕ) < 1024 := (i 3).isLt
    have hN : cfg0.N = 4 := N_0
    obtain ⟨t, ht⟩ : ∃ t : Fin cfg0.N, t.val = (i 1 : ℕ) := ⟨⟨(i 1 : ℕ), by omega⟩, rfl⟩
    obtain ⟨i0, i1, i2, i3⟩ := where_o t
    refine ⟨t, flush0_2 t, ?_⟩
    show i ∈ ((View.whole main_v2).slice (win0_2.rect t)).set
    rw [View.set_slice_whole, Rect.mem_set_unit]
    intro a
    match a with
    | ⟨0, _⟩ => show win0_2.index t 0 * 8 ≤ (i 0 : ℕ) ∧ (i 0 : ℕ) < win0_2.index t 0 * 8 + 8; rw [i0]; omega
    | ⟨1, _⟩ => show win0_2.index t 1 * 1 ≤ (i 1 : ℕ) ∧ (i 1 : ℕ) < win0_2.index t 1 * 1 + 1; rw [i1]; omega
    | ⟨2, _⟩ => show win0_2.index t 2 * 64 ≤ (i 2 : ℕ) ∧ (i 2 : ℕ) < win0_2.index t 2 * 64 + 64; rw [i2]; omega
    | ⟨3, _⟩ => show win0_2.index t 3 * 1024 ≤ (i 3 : ℕ) ∧ (i 3 : ℕ) < win0_2.index t 3 * 1024 + 1024; rw [i3]; omega

end Real

/-- The host's lines after the kernel: the result array reshaped, under a leading unit axis. -/
theorem tail : Pipeline.afterTail₀ cfgs (dats m) 0 (V0 m) [hostOps1] c main_v4
    = broadcastInDim S1x8x64x64x64 ![1, 2, 3, 4] bcast_S8x64x64x64_S1x8x64x64x64_1_2_3_4
        (shapeCast S8x64x64x64 ((dats m 0 c).arrAt 2 cfg0.N : Vec Ideal S8x4x64x1024 .f32) shapeCasts_S8x4x64x1024_S8x64x64x64) := by
  have hinj : Function.Injective (Pipeline.arrRef spec0) := by decide
  have e : Pipeline.withArrays (cfgs 0).spec c (V0 m c) (fun w => (dats m 0 c).arrAt w (cfgs 0).N) (Proc.devRef .tc main_v2)
      = (dats m 0 c).arrAt 2 cfg0.N := Pipeline.withArrays_arr spec0 hinj c _ _ 2
  unfold Pipeline.afterTail₀
  show StableHlo.after hostOps1 _ _ = _
  after_results
  rw [e]
  rfl

/-- An entry of the program's result: output `o` at `(a, b, d)` is the window sum of channel `a / 16` at row
    `a % 16 * 4 + b / 16`, column `b % 16 * 4 + d / 16` and depth `d % 16`. -/
theorem value (hx : ∀ i, ∃ q : ℝ, argX m c i = (q : EReal)) (hw : ∀ i, ∃ q : ℝ, argW m c i = (q : EReal))
    (o : Fin 8) (a b d : Fin 64) :
    (Pipeline.afterTail₀ cfgs (dats m) 0 (V0 m) [hostOps1] c main_v4 : Vec Ideal S1x8x64x64x64 .f32) (ValueIdx.ix5 0 o a b d)
      = conv (fun ch di dj dk => argW m c (ValueIdx.ix5 o ch di dj dk))
          (fun r j s => argX m c (ValueIdx.ix5 0 ⟨a.val / 16, by omega⟩ r j s))
          (a.val % 16 * 4 + b.val / 16) (b.val % 16 * 4 + d.val / 16) (d.val % 16) := by
  rw [tail, final m c hx hw]
  refine (broadcastInDim_apply _ _ _ _ (ValueIdx.ix4 o a b d) fun k => ?_).trans ?_
  · match k with
    | ⟨0, _⟩ => rfl
    | ⟨1, _⟩ => rfl
    | ⟨2, _⟩ => rfl
    | ⟨3, _⟩ => rfl
  refine (shapeCast_apply (target m c) _ _ (ValueIdx.ix4 o ⟨a.val / 16, by omega⟩ ⟨a.val % 16 * 4 + b.val / 16, by omega⟩
    ⟨b.val % 16 * 64 + d.val, by omega⟩) ?_).trans ?_
  · rw [Shape.rowMajor_val_four, Shape.rowMajor_val_four]
    show ((o.val * 4 + a.val / 16) * 64 + (a.val % 16 * 4 + b.val / 16)) * 1024 + (b.val % 16 * 64 + d.val)
      = ((o.val * 64 + a.val) * 64 + b.val) * 64 + d.val
    omega
  · have h1 : (b.val % 16 * 64 + d.val) / 16 = b.val % 16 * 4 + d.val / 16 := by omega
    have h2 : (b.val % 16 * 64 + d.val) % 16 = d.val % 16 := by omega
    rw [← h1, ← h2]
    rfl

end Cert.Result

end
-- ==== Proof.lean ====
/- Proves `Cert.Claim` (proofs.«01_k».proof.Defs): both kernel programs and the reference terminate, leave their
   arguments as they were and end with every counter at zero; the idealized kernel keeps the kernel's program; and from
   finite arguments the idealized kernel and the reference end with the same result over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Finite
public import proofs.«01_k».proof.Proof.Reference
public import proofs.«01_k».proof.Proof.Result
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference ends with its arguments as they were and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At the same finite arguments the reference computes the result the idealized kernel leaves. -/
theorem same_result (m : (ℓ : Loc Cert.KernelIdeal.nD Cert.KernelIdeal.τ Cert.KernelIdeal.sig) → Buf (Elt Ideal) ℓ)
    (c : Dev Cert.KernelIdeal.nD)
    (hx : ∀ i, ∃ q : ℝ, Cert.Result.argX m c i = (q : EReal)) (hw : ∀ i, ∃ q : ℝ, Cert.Result.argW m c i = (q : EReal)) :
    (Cert.ReferenceIdeal.Read.val_main_v67 (F := Ideal) (Cert.Result.argX m c) (Cert.Result.argW m c) : Vec Ideal Cert.KernelIdeal.S1x8x64x64x64 .f32)
      = Pipeline.afterTail₀ Cert.KernelIdeal.cfgs (Cert.KernelIdeal.Gen.dats m) 0 (Cert.KernelIdeal.Gen.V0 m) [Cert.KernelIdeal.Gen.hostOps1] c
          Cert.KernelIdeal.main_v4 := by
  funext i
  obtain ⟨z, o, a, b, d, rfl⟩ : ∃ (z : Fin 1) (o : Fin 8) (a b d : Fin 64), i = ValueIdx.ix5 z o a b d :=
    ⟨i 0, i 1, i 2, i 3, i 4, ValueIdx.eq_ix5 i⟩
  obtain rfl : z = 0 := Subsingleton.elim _ _
  exact (Cert.Reference.value (Cert.Result.argX m c) (Cert.Result.argW m c) o a b d).trans
    (Cert.Result.value m c hx hw o a b d).symm

/-- From finite arguments the idealized kernel and the reference end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v4, ?_, ?_⟩
  · exact (θ_run _ _ _).mono
      (fun r h c => ⟨(h.1 c).2 Cert.KernelIdeal.main_v4 (Pipeline.mem_restRefs_of _ (by decide) (by decide)), h.2 c⟩)
      (θ_run_and (Cert.KernelIdeal.Gen.run_main (F := Ideal) m g) (Cert.KernelIdeal.Gen.unchanged (F := Ideal) m g))
  · refine (θ_run _ _ _).mono (fun r h c => ⟨(h c).1.trans ?_, (h c).2⟩) (Cert.ReferenceIdeal.Value.run (F := Ideal) m' g')
    obtain ⟨hx, hw⟩ := Cert.Finite.of_pre (Cert.Result.argX m c) (Cert.Result.argW m c) (hpre c)
    rw [Cert.ReferenceIdeal.Read.val_main_v67_eq, (hargs c).1, (hargs c).2]
    exact same_result m c hx hw

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    trivial, algebraic⟩

end Cert.Proof

end
